-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x4096 : Shape := ⟨2, ![1024, 4096]⟩
abbrev S2048x1x4 : Shape := ⟨3, ![2048, 1, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S128x1024 : Shape := ⟨2, ![128, 1024]⟩
abbrev S1024x2048 : Shape := ⟨2, ![1024, 2048]⟩
abbrev S2048x4 : Shape := ⟨2, ![2048, 4]⟩
abbrev S4x2048 : Shape := ⟨2, ![4, 2048]⟩
abbrev S1x2048 : Shape := ⟨2, ![1, 2048]⟩
abbrev S_ : Shape := ⟨0, ![]⟩
abbrev S2048x128 : Shape := ⟨2, ![2048, 128]⟩
abbrev S16x2048 : Shape := ⟨2, ![16, 2048]⟩
abbrev S2048x2048 : Shape := ⟨2, ![2048, 2048]⟩
abbrev S256x1024 : Shape := ⟨2, ![256, 1024]⟩
abbrev S8x1024 : Shape := ⟨2, ![8, 1024]⟩
abbrev S256x2048 : Shape := ⟨2, ![256, 2048]⟩
abbrev S256x128 : Shape := ⟨2, ![256, 128]⟩
abbrev S8x2048 : Shape := ⟨2, ![8, 2048]⟩
abbrev S3x2048 : Shape := ⟨2, ![3, 2048]⟩
abbrev S259x2048 : Shape := ⟨2, ![259, 2048]⟩
abbrev S256x64 : Shape := ⟨2, ![256, 64]⟩
abbrev S2048x16x1 : Shape := ⟨3, ![2048, 16, 1]⟩
abbrev S2048x1x2048 : Shape := ⟨3, ![2048, 1, 2048]⟩
abbrev S128x16x1 : Shape := ⟨3, ![128, 16, 1]⟩
abbrev S16x1024 : Shape := ⟨2, ![16, 1024]⟩
abbrev S128x1x1024 : Shape := ⟨3, ![128, 1, 1024]⟩
abbrev S128x8x1024 : Shape := ⟨3, ![128, 8, 1024]⟩
abbrev S1x1x1024 : Shape := ⟨3, ![1, 1, 1024]⟩
abbrev S1x1024 : Shape := ⟨2, ![1, 1024]⟩
abbrev S1x16x1 : Shape := ⟨3, ![1, 16, 1]⟩
abbrev S16x1 : Shape := ⟨2, ![16, 1]⟩
abbrev S1x8x1024 : Shape := ⟨3, ![1, 8, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 37
  | .vmem => 46
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S2048x1x4, .f32⟩
  | .hbm, ⟨3, _⟩ => ⟨S2048, .f32⟩
  | .hbm, ⟨4, _⟩ => ⟨S2048x96, .f32⟩
  | .hbm, ⟨5, _⟩ => ⟨S64x2048, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S2048x1024, .f32⟩
  | .hbm, ⟨10, _⟩ => ⟨S128x1024, .f32⟩
  | .hbm, ⟨11, _⟩ => ⟨S2048x1024, .f32⟩
  | .hbm, ⟨12, _⟩ => ⟨S1024x2048, .f32⟩
  | .hbm, ⟨13, _⟩ => ⟨S1024x2048, .f32⟩
  | .hbm, ⟨14, _⟩ => ⟨S2048x4, .f32⟩
  | .hbm, ⟨15, _⟩ => ⟨S4x2048, .f32⟩
  | .hbm, ⟨16, _⟩ => ⟨S1x2048, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S1x2048, .f32⟩
  | .hbm, ⟨21, _⟩ => ⟨S2048x16, .f32⟩
  | .hbm, ⟨22, _⟩ => ⟨S2048x16, .f32⟩
  | .hbm, ⟨23, _⟩ => ⟨S16x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x128, .f32⟩
  | .hbm, ⟨28, _⟩ => ⟨S2048x16, .f32⟩
  | .hbm, ⟨29, _⟩ => ⟨S2048x16x1, .f32⟩
  | .hbm, ⟨30, _⟩ => ⟨S2048x16, .f32⟩
  | .hbm, ⟨31, _⟩ => ⟨S2048x16x1, .f32⟩
  | .hbm, ⟨32, _⟩ => ⟨S2048x1x2048, .f32⟩
  | .hbm, ⟨33, _⟩ => ⟨S2048x2048, .f32⟩
  | .hbm, ⟨34, _⟩ => ⟨S1x2048, .f32⟩
  | .hbm, ⟨35, _⟩ => ⟨S2048x1024, .f32⟩
  | .hbm, ⟨36, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S1024x2048, .f32⟩
  | .local _ .vmem, ⟨5, _⟩ => ⟨S1024x2048, .f32⟩
  | .local _ .vmem, ⟨6, _⟩ => ⟨S4x2048, .f32⟩
  | .local _ .vmem, ⟨7, _⟩ => ⟨S1x2048, .f32⟩
  | .local _ .vmem, ⟨8, _⟩ => ⟨S2048x128, .f32⟩
  | .local _ .vmem, ⟨9, _⟩ => ⟨S64x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x128, .f32⟩
  | .local _ .vmem, ⟨18, _⟩ => ⟨S256x128, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x16x1, .f32⟩
  | .local _ .vmem, ⟨24, _⟩ => ⟨S128x16x1, .f32⟩
  | .local _ .vmem, ⟨25, _⟩ => ⟨S128x16x1, .f32⟩
  | .local _ .vmem, ⟨26, _⟩ => ⟨S128x16x1, .f32⟩
  | .local _ .vmem, ⟨27, _⟩ => ⟨S16x1024, .f32⟩
  | .local _ .vmem, ⟨28, _⟩ => ⟨S16x1024, .f32⟩
  | .local _ .vmem, ⟨29, _⟩ => ⟨S128x1024, .f32⟩
  | .local _ .vmem, ⟨30, _⟩ => ⟨S128x1x1024, .f32⟩
  | .local _ .vmem, ⟨31, _⟩ => ⟨S128x1x1024, .f32⟩
  | .local _ .vmem, ⟨32, _⟩ => ⟨S16x1024, .f32⟩
  | .local _ .vmem, ⟨33, _⟩ => ⟨S128x1x1024, .f32⟩
  | .local _ .vmem, ⟨34, _⟩ => ⟨S128x1x1024, .f32⟩
  | .local _ .vmem, ⟨35, _⟩ => ⟨S128x8x1024, .f32⟩
  | .local _ .vmem, ⟨36, _⟩ => ⟨S512x2048, .f32⟩
  | .local _ .vmem, ⟨37, _⟩ => ⟨S512x2048, .f32⟩
  | .local _ .vmem, ⟨38, _⟩ => ⟨S512x2048, .f32⟩
  | .local _ .vmem, ⟨39, _⟩ => ⟨S512x2048, .f32⟩
  | .local _ .vmem, ⟨40, _⟩ => ⟨S512x2048, .f32⟩
  | .local _ .vmem, ⟨41, _⟩ => ⟨S512x2048, .f32⟩
  | .local _ .vmem, ⟨42, _⟩ => ⟨S1x2048, .f32⟩
  | .local _ .vmem, ⟨43, _⟩ => ⟨S2048x1024, .f32⟩
  | .local _ .vmem, ⟨44, _⟩ => ⟨S512x1024, .f32⟩
  | .local _ .vmem, ⟨45, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc1_scratch3 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem6_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem5_1 : DmaSem sig := 41

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![2, 16], ![false, false]⟩

@[reducible] def k1_t1_loop : Scf.Loop 32 :=
  let c0_i32_14 : BitVec 32 := 0#32
  let c16_i32 : BitVec 32 := 16#32
  let v28 : BitVec 32 := Scalar.addi c0_i32_14 c16_i32
  let c1_i32 : BitVec 32 := 1#32
  ⟨c0_i32_14, v28, c1_i32⟩
def k1_off1 (k1_t1 : Fin k1_t1_loop.trips) (c0_i32_27 : BitVec 32) : Fin 3 → Nat :=
  let c0_i32_14 : BitVec 32 := 0#32
  let c1_i32 : BitVec 32 := 1#32
  let arg13 : BitVec 32 := Scf.iv c0_i32_14 c1_i32 k1_t1
  let c8_i32 : BitVec 32 := 8#32
  let v36 : BitVec 32 := Scalar.muli arg13 c8_i32
  let v37 : BitVec 32 := Scalar.addi v36 c0_i32_27
  let v38 : Index := Scalar.indexCast v37
  let c0_28 : Index := 0#32
  let c0_29 : Index := 0#32
  ![v38.toNat, 0, 0]
def k1_off2 (k1_t1 : Fin k1_t1_loop.trips) (c0_i32_27 : BitVec 32) : Fin 3 → Nat :=
  let c0_i32_14 : BitVec 32 := 0#32
  let c1_i32 : BitVec 32 := 1#32
  let arg13 : BitVec 32 := Scf.iv c0_i32_14 c1_i32 k1_t1
  let c8_i32 : BitVec 32 := 8#32
  let v36 : BitVec 32 := Scalar.muli arg13 c8_i32
  let v37 : BitVec 32 := Scalar.addi v36 c0_i32_27
  let v50 : Index := Scalar.indexCast v37
  let c0_32 : Index := 0#32
  let c0_33 : Index := 0#32
  ![v50.toNat, 0, 0]
def k1_off3 (k1_t1 : Fin k1_t1_loop.trips) (c0_i32_27 : BitVec 32) : Fin 3 → Nat :=
  let c0_i32_14 : BitVec 32 := 0#32
  let c1_i32 : BitVec 32 := 1#32
  let arg13 : BitVec 32 := Scf.iv c0_i32_14 c1_i32 k1_t1
  let c8_i32 : BitVec 32 := 8#32
  let v36 : BitVec 32 := Scalar.muli arg13 c8_i32
  let v37 : BitVec 32 := Scalar.addi v36 c0_i32_27
  let v67 : Index := Scalar.indexCast v37
  let c0_36 : Index := 0#32
  let c0_37 : Index := 0#32
  ![v67.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S2048x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x2048x1024 : Shape := ⟨3, ![1, 2048, 1024]⟩
abbrev S1024x4096 : Shape := ⟨2, ![1024, 4096]⟩
abbrev S2048x1x4 : Shape := ⟨3, ![2048, 1, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1x2048x4096 : Shape := ⟨3, ![1, 2048, 4096]⟩
abbrev S1x2048x2048 : Shape := ⟨3, ![1, 2048, 2048]⟩
abbrev S_ : Shape := ⟨0, ![]⟩
abbrev S1x2051x2048 : Shape := ⟨3, ![1, 2051, 2048]⟩
abbrev S2048x1x1 : Shape := ⟨3, ![2048, 1, 1]⟩
abbrev S1x1x2048 : Shape := ⟨3, ![1, 1, 2048]⟩
abbrev S1x2048x96 : Shape := ⟨3, ![1, 2048, 96]⟩
abbrev S1x2048x64 : Shape := ⟨3, ![1, 2048, 64]⟩
abbrev S1x2048x16 : Shape := ⟨3, ![1, 2048, 16]⟩
abbrev S1x2048x2048x1 : Shape := ⟨4, ![1, 2048, 2048, 1]⟩
abbrev S1x1x2048x16 : Shape := ⟨4, ![1, 1, 2048, 16]⟩
abbrev S1x2048x2048x16 : Shape := ⟨4, ![1, 2048, 2048, 16]⟩
abbrev S1x2048x1x16 : Shape := ⟨4, ![1, 2048, 1, 16]⟩
abbrev S2048x1x2048x16 : Shape := ⟨4, ![2048, 1, 2048, 16]⟩
abbrev S2048x1x16 : Shape := ⟨3, ![2048, 1, 16]⟩
abbrev S2048x1x2048 : Shape := ⟨3, ![2048, 1, 2048]⟩
abbrev S1x1x16 : Shape := ⟨3, ![1, 1, 16]⟩
abbrev S1x16 : Shape := ⟨2, ![1, 16]⟩
abbrev S1x2048 : Shape := ⟨2, ![1, 2048]⟩

abbrev nBuf : Space → Nat
  | .hbm => 151
  | .vmem => 0
  | .smem => 0
  | _ => 0

abbrev hbmTy0_0 (i : Nat) : BufTy := match i % 128 with
  | 0 => ⟨S1x2048x1024, .f32⟩
  | 1 => ⟨S1024x4096, .f32⟩
  | 2 => ⟨S2048x1x4, .f32⟩
  | 3 => ⟨S2048, .f32⟩
  | 4 => ⟨S2048x96, .f32⟩
  | 5 => ⟨S64x2048, .f32⟩
  | 6 => ⟨S2048, .f32⟩
  | 7 => ⟨S2048x16, .f32⟩
  | 8 => ⟨S2048, .f32⟩
  | 9 => ⟨S2048x1024, .f32⟩
  | 10 => ⟨S1x2048x4096, .f32⟩
  | 11 => ⟨S1x2048x2048, .f32⟩
  | 12 => ⟨S1x2048x2048, .f32⟩
  | 13 => ⟨S_, .i32⟩
  | 14 => ⟨S_, .f32⟩
  | 15 => ⟨S1x2051x2048, .f32⟩
  | 16 => ⟨S1x2048x2048, .f32⟩
  | 17 => ⟨S2048x1x1, .f32⟩
  | 18 => ⟨S2048, .f32⟩
  | 19 => ⟨S1x1x2048, .f32⟩
  | 20 => ⟨S1x2048x2048, .f32⟩
  | 21 => ⟨S1x2048x2048, .f32⟩
  | 22 => ⟨S_, .f32⟩
  | 23 => ⟨S1x2048x2048, .f32⟩
  | 24 => ⟨S1x2048x2048, .f32⟩
  | 25 => ⟨S1x2048x2048, .f32⟩
  | 26 => ⟨S2048x1x1, .f32⟩
  | 27 => ⟨S2048, .f32⟩
  | 28 => ⟨S1x1x2048, .f32⟩
  | 29 => ⟨S1x2048x2048, .f32⟩
  | 30 => ⟨S1x2048x2048, .f32⟩
  | 31 => ⟨S1x2048x2048, .f32⟩
  | 32 => ⟨S1x2048x2048, .f32⟩
  | 33 => ⟨S2048x1x1, .f32⟩
  | 34 => ⟨S2048, .f32⟩
  | 35 => ⟨S1x1x2048, .f32⟩
  | 36 => ⟨S1x2048x2048, .f32⟩
  | 37 => ⟨S1x2048x2048, .f32⟩
  | 38 => ⟨S1x2048x2048, .f32⟩
  | 39 => ⟨S1x2048x2048, .f32⟩
  | 40 => ⟨S2048x1x1, .f32⟩
  | 41 => ⟨S2048, .f32⟩
  | 42 => ⟨S1x1x2048, .f32⟩
  | 43 => ⟨S1x2048x2048, .f32⟩
  | 44 => ⟨S1x2048x2048, .f32⟩
  | 45 => ⟨S1x2048x2048, .f32⟩
  | 46 => ⟨S1x1x2048, .f32⟩
  | 47 => ⟨S1x2048x2048, .f32⟩
  | 48 => ⟨S1x2048x2048, .f32⟩
  | 49 => ⟨S1x2048x2048, .f32⟩
  | 50 => ⟨S1x2048x2048, .f32⟩
  | 51 => ⟨S_, .f32⟩
  | 52 => ⟨S1x2048x2048, .f32⟩
  | 53 => ⟨S1x2048x2048, .f32⟩
  | 54 => ⟨S_, .f32⟩
  | 55 => ⟨S1x2048x2048, .f32⟩
  | 56 => ⟨S1x2048x2048, .f32⟩
  | 57 => ⟨S1x2048x2048, .f32⟩
  | 58 => ⟨S1x2048x96, .f32⟩
  | 59 => ⟨S1x2048x64, .f32⟩
  | 60 => ⟨S1x2048x16, .f32⟩
  | 61 => ⟨S1x2048x16, .f32⟩
  | 62 => ⟨S1x2048x2048, .f32⟩
  | 63 => ⟨S1x1x2048, .f32⟩
  | 64 => ⟨S1x2048x2048, .f32⟩
  | 65 => ⟨S1x2048x2048, .f32⟩
  | 66 => ⟨S_, .f32⟩
  | 67 => ⟨S1x2048x2048, .f32⟩
  | 68 => ⟨S1x2048x2048, .f32⟩
  | 69 => ⟨S1x2048x2048, .f32⟩
  | 70 => ⟨S1x2048x2048, .f32⟩
  | 71 => ⟨S1x2048x2048, .i1⟩
  | 72 => ⟨S1x2048x2048, .f32⟩
  | 73 => ⟨S1x2048x2048, .f32⟩
  | 74 => ⟨S1x2048x2048, .f32⟩
  | 75 => ⟨S1x2048x2048, .f32⟩
  | 76 => ⟨S1x2048x2048, .f32⟩
  | 77 => ⟨S1x2048x2048, .f32⟩
  | 78 => ⟨S1x2048x2048, .f32⟩
  | 79 => ⟨S1x2048x2048, .f32⟩
  | 80 => ⟨S2048x16, .f32⟩
  | 81 => ⟨S2048x16, .f32⟩
  | 82 => ⟨S1x2048x2048x1, .f32⟩
  | 83 => ⟨S1x1x2048x16, .f32⟩
  | 84 => ⟨S1x2048x2048x16, .f32⟩
  | 85 => ⟨S1x2048x2048x16, .f32⟩
  | 86 => ⟨S1x2048x2048x16, .f32⟩
  | 87 => ⟨S1x2048x2048x16, .f32⟩
  | 88 => ⟨S1x2048x2048x1, .f32⟩
  | 89 => ⟨S1x2048x1x16, .f32⟩
  | 90 => ⟨S1x2048x2048x16, .f32⟩
  | 91 => ⟨S1x2048x2048x16, .f32⟩
  | 92 => ⟨S1x2048x2048x16, .f32⟩
  | 93 => ⟨S1x2048x2048x1, .f32⟩
  | 94 => ⟨S1x2048x2048x16, .f32⟩
  | 95 => ⟨S1x2048x2048x16, .f32⟩
  | 96 => ⟨S_, .f32⟩
  | 97 => ⟨S1x2048x16, .f32⟩
  | 98 => ⟨S2048x1x2048x16, .f32⟩
  | 99 => ⟨S2048x1x2048x16, .f32⟩
  | 100 => ⟨S2048x1x16, .f32⟩
  | 101 => ⟨S_, .f32⟩
  | 102 => ⟨S2048x1x2048, .f32⟩
  | 103 => ⟨S_, .i32⟩
  | 104 => ⟨S2048x1x2048x16, .f32⟩
  | 105 => ⟨S2048x1x2048x16, .f32⟩
  | 106 => ⟨S2048x1x16, .f32⟩
  | 107 => ⟨S_, .i32⟩
  | 108 => ⟨S1x2048x16, .f32⟩
  | 109 => ⟨S2048x1x2048, .f32⟩
  | 110 => ⟨S_, .i32⟩
  | 111 => ⟨S_, .i1⟩
  | 112 => ⟨S_, .i32⟩
  | 113 => ⟨S_, .i32⟩
  | 114 => ⟨S_, .i32⟩
  | 115 => ⟨S1x1x2048x16, .f32⟩
  | 116 => ⟨S1x2048x16, .f32⟩
  | 117 => ⟨S_, .i32⟩
  | 118 => ⟨S_, .i32⟩
  | 119 => ⟨S_, .i32⟩
  | 120 => ⟨S1x1x2048x16, .f32⟩
  | 121 => ⟨S1x2048x16, .f32⟩
  | 122 => ⟨S_, .i32⟩
  | 123 => ⟨S_, .i32⟩
  | 124 => ⟨S1x1x16, .f32⟩
  | 125 => ⟨S1x16, .f32⟩
  | 126 => ⟨S1x2048x16, .f32⟩
  | 127 => ⟨S1x2048x16, .f32⟩
  | _ => ⟨S1x2048x1024, .f32⟩

abbrev hbmTy0_1 (i : Nat) : BufTy := match i % 128 with
  | 0 => ⟨S1x2048, .f32⟩
  | 1 => ⟨S1x1x2048, .f32⟩
  | 2 => ⟨S_, .i32⟩
  | 3 => ⟨S_, .i32⟩
  | 4 => ⟨S2048x1x2048, .f32⟩
  | 5 => ⟨S_, .i32⟩
  | 6 => ⟨S_, .i32⟩
  | 7 => ⟨S1x2048x2048, .f32⟩
  | 8 => ⟨S1x1x2048, .f32⟩
  | 9 => ⟨S1x2048x2048, .f32⟩
  | 10 => ⟨S1x2048x2048, .f32⟩
  | 11 => ⟨S1x2048x2048, .f32⟩
  | 12 => ⟨S1x2048x2048, .f32⟩
  | 13 => ⟨S1x2048x2048, .f32⟩
  | 14 => ⟨S_, .f32⟩
  | 15 => ⟨S1x2048x2048, .f32⟩
  | 16 => ⟨S1x2048x2048, .f32⟩
  | 17 => ⟨S_, .f32⟩
  | 18 => ⟨S1x2048x2048, .f32⟩
  | 19 => ⟨S1x2048x2048, .f32⟩
  | 20 => ⟨S1x2048x2048, .f32⟩
  | 21 => ⟨S1x2048x2048, .f32⟩
  | 22 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_1 : Ref sig .tc := ⟨.hbm, 101, rfl⟩
abbrev main_v66 : Ref sig .tc := ⟨.hbm, 102, rfl⟩
abbrev main_c_2 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_while0c_c_8 : Ref sig .tc := ⟨.hbm, 110, rfl⟩
abbrev main_while0c_v76 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_call3_v0 : Ref sig .tc := ⟨.hbm, 115, rfl⟩
abbrev main_while0b_v76 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_v0 : Ref sig .tc := ⟨.hbm, 120, rfl⟩
abbrev main_while0b_v77 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_call6_v0 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_v82 : Ref sig .tc := ⟨.hbm, 132, rfl⟩
abbrev main_while0b_c_8 : Ref sig .tc := ⟨.hbm, 133, rfl⟩
abbrev main_while0b_v83 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩

abbrev nD : Nat := 1
abbrev τ : Topo := Topo.v7x

variable {F : FTy → Type} [FloatOps F]

abbrev main_while0_count : Scf.Loop 32 := ⟨0#32, 2048#32, 1#32⟩
-- ==== Proof.KI.Proj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_mamba_proj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x2048 := Rect.unit (s := S1024x2048) ![0, 0] S1024x2048.size inb_S1024x2048_S1024x2048_0_0
abbrev r0_2 : Rect S256x2048 := Rect.unit (s := S256x2048) ![0, 0] S256x2048.size inb_S256x2048_S256x2048_0_0
abbrev r0_3 : Rect S8x1024 := Rect.unit (s := S8x1024) ![0, 0] S8x1024.size inb_S8x1024_S8x1024_0_0
abbrev r0_4 : Rect S4x2048 := Rect.unit (s := S4x2048) ![0, 0] S1x2048.size inb_S4x2048_S1x2048_0_0
abbrev r0_5 : Rect S4x2048 := Rect.unit (s := S4x2048) ![1, 0] S1x2048.size inb_S4x2048_S1x2048_1_0
abbrev r0_6 : Rect S4x2048 := Rect.unit (s := S4x2048) ![2, 0] S1x2048.size inb_S4x2048_S1x2048_2_0
abbrev r0_7 : Rect S4x2048 := Rect.unit (s := S4x2048) ![3, 0] S1x2048.size inb_S4x2048_S1x2048_3_0
abbrev r0_8 : Rect S1x2048 := Rect.unit (s := S1x2048) ![0, 0] S1x2048.size inb_S1x2048_S1x2048_0_0
abbrev r0_9 : Rect S2048x128 := Rect.unit (s := S2048x128) ![0, 0] S2048x128.size inb_S2048x128_S2048x128_0_0
abbrev r0_10 : Rect S256x128 := Rect.unit (s := S256x128) ![0, 0] S256x128.size inb_S256x128_S256x128_0_0
abbrev r0_11 : Rect S64x2048 := Rect.unit (s := S64x2048) ![0, 0] S64x2048.size inb_S64x2048_S64x2048_0_0

/-! ## What the body leaves in each output window's buffer -/

/-! ### Values of the body that several stores use

    Each is a vector the body binds, over the input windows' blocks; the comment after each is its name in the printed body. -/

def k0_pay8 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : FVec F S259x2048 .f32 :=
  k0_pay6 i (View.ld x0 r0_0) (View.ld x2 r0_1) (View.ld x1 r0_3) (View.ld x2 r0_1) -- `v20`
def k0_pay9 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : FVec F S256x2048 .f32 :=
  k0_pay7 i (View.ld x0 r0_0) (View.ld x2 r0_1) (View.ld x1 r0_3) (View.ld x2 r0_1) (View.ld x4 r0_4) (View.ld x4 r0_5) -- `v31`

/-- Window 9's staging buffer after the body, from the input windows' blocks: its one store, as a piece. -/
def out0_9 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : Vec F S256x2048 .f32 :=
  View.canon [⟨r0_2, k0_pay1 (k0_pay8 i x0 x1 x2 x3 x4 x5 x6 x7 x8) (k0_pay9 i x0 x1 x2 x3 x4 x5 x6 x7 x8) (View.ld x4 r0_6) (View.ld x4 r0_7) (View.ld x5 r0_8)⟩]

/-- Its stores tile the buffer (checked by evaluation), so they cover it. -/
theorem cover0_9 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-- Window 10's staging buffer after the body, from the input windows' blocks: its one store, as a piece. -/
def out0_10 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : Vec F S256x2048 .f32 :=
  View.canon [⟨r0_2, k0_pay3 (k0_pay8 i x0 x1 x2 x3 x4 x5 x6 x7 x8) (k0_pay9 i x0 x1 x2 x3 x4 x5 x6 x7 x8) (View.ld x4 r0_6) (View.ld x4 r0_7) (View.ld x5 r0_8) (View.ld x6 r0_9) (View.ld x7 r0_11) (View.ld x8 r0_8)⟩]

/-- Its stores tile the buffer (checked by evaluation), so they cover it. -/
theorem cover0_10 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-- Window 11's staging buffer after the body, from the input windows' blocks: its one store, as a piece. -/
def out0_11 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : Vec F S256x2048 .f32 :=
  View.canon [⟨r0_2, k0_pay5 (View.ld x0 r0_0) (View.ld x3 r0_1)⟩]

/-- Its stores tile the buffer (checked by evaluation), so they cover it. -/
theorem cover0_11 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-- Window 12's staging buffer after the body, from the input windows' blocks: its one store, as a piece. -/
def out0_12 (i : grid0.Coords) (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) : Vec F S256x128 .f32 :=
  View.canon [⟨r0_10, k0_pay2 (k0_pay8 i x0 x1 x2 x3 x4 x5 x6 x7 x8) (k0_pay9 i x0 x1 x2 x3 x4 x5 x6 x7 x8) (View.ld x4 r0_6) (View.ld x4 r0_7) (View.ld x5 r0_8) (View.ld x6 r0_9)⟩]

/-- Its stores tile the buffer (checked by evaluation), so they cover it. -/
theorem cover0_12 (p0 : Vec F S256x128 .f32) (y : S256x128.Idx) :
    ∃ pc ∈ ([⟨r0_10, p0⟩] : List (View.Piece (Elt F) S256x128 .f32)), y ∈ pc.1.set :=
  View.cover_of_tiled [⟨r0_10, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S256x1024 .f32) (harg2 : arg2.IsWhole) (arg3 : Memref sig .tc .vmem S8x1024 .f32) (harg3 : arg3.IsWhole) (arg4 : Memref sig .tc .vmem S1024x2048 .f32) (harg4 : arg4.IsWhole) (arg5 : Memref sig .tc .vmem S1024x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S64x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x128 .f32) (harg14 : arg14.IsWhole)
    (x0 : Vec F S256x1024 .f32) (x1 : Vec F S8x1024 .f32) (x2 : Vec F S1024x2048 .f32) (x3 : Vec F S1024x2048 .f32) (x4 : Vec F S4x2048 .f32) (x5 : Vec F S1x2048 .f32) (x6 : Vec F S2048x128 .f32) (x7 : Vec F S64x2048 .f32) (x8 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 i x0 x1 x2 x3 x4 x5 x6 x7 x8) ∗ owns (c : Thread nD τ) arg12 fullShare (out0_10 i x0 x1 x2 x3 x4 x5 x6 x7 x8) ∗ owns (c : Thread nD τ) arg13 fullShare (out0_11 i x0 x1 x2 x3 x4 x5 x6 x7 x8) ∗ owns (c : Thread nD τ) arg14 fullShare (out0_12 i x0 x1 x2 x3 x4 x5 x6 x7 x8)) -∗ K ⟨⟩))
      ⊢ wp frame (wpE (defs₀ (F := F)) Variants.none c none) E (cc0_mamba_proj i arg2 harg2 arg3 harg3 arg4 harg4 arg5 harg5 arg6 harg6 arg7 harg7 arg8 harg8 arg9 harg9 arg10 harg10 arg11 harg11 arg12 harg12 arg13 harg13 arg14 harg14) K := by
  simp only [cc0_mamba_proj_eq_skeleton]; unfold cc0_mamba_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KI.Loop.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # REGION 1 of @main: the recurrence over 128 time steps per grid point -/

/-! ## One time step -/

/-- One step of the state: `exp2 (dt * a2) * h + (dt*x) * B`, the payload of the fourth unrolled step. -/
def kstep (a2 h : FVec F S16x1024 .f32) (d e : Vec F S1x1x1024 .f32) (b : Vec F S1x16x1 .f32) : FVec F S16x1024 .f32 := k1_pay4 a2 h d e b
/-- The row of partial sums a step stores: states `n` and `n + 8` of `h * C` added. -/
def krow (h : FVec F S16x1024 .f32) (c : Vec F S1x16x1 .f32) : FVec F S1x8x1024 .f32 := k1_pay11 h c

theorem pay28_eq (a2 h : FVec F S16x1024 .f32) (d e : Vec F S1x1x1024 .f32) (b : Vec F S1x16x1 .f32) :
    k1_pay28 h (k1_pay19 a2 d) (k1_pay20 e) b = shapeCast S16x1024 (kstep a2 h d e b) shapeCasts_S16x1024_S16x1024 := rfl

section Trip
open Idealize.ShloMosaic.Tactic

/-- The state after 1 of a trip's eight steps. -/
def hs1 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (View.readAt (Elt F) arg9.view (Rect.unit (s := S16x1024) ![0, 0] S16x1024.size inb_S16x1024_S16x1024_0_0).toLoadRect f9)
    (View.readAt (Elt F) arg10.view (Rect.unit (s := S128x1x1024) (k1_off1 k 0#32) S1x1x1024.size (k1_off1_inb k 0)).toLoadRect X10)
    (View.readAt (Elt F) arg11.view (Rect.unit (s := S128x1x1024) (k1_off1 k 0#32) S1x1x1024.size (k1_off1_inb k 0)).toLoadRect X11)
    (View.readAt (Elt F) arg4.view (Rect.unit (s := S128x16x1) (k1_off2 k 0#32) S1x16x1.size (k1_off2_inb k 0)).toLoadRect X4)
/-- The state after 2 of a trip's eight steps. -/
def hs2 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs1 arg4 arg10 arg11 arg9 v24 X4 X10 X11 k f9)
    (View.readAt (Elt F) arg10.view (Rect.unit (s := S128x1x1024) (k1_off1 k 1#32) S1x1x1024.size (k1_off1_inb k 1)).toLoadRect X10)
    (View.readAt (Elt F) arg11.view (Rect.unit (s := S128x1x1024) (k1_off1 k 1#32) S1x1x1024.size (k1_off1_inb k 1)).toLoadRect X11)
    (View.readAt (Elt F) arg4.view (Rect.unit (s := S128x16x1) (k1_off2 k 1#32) S1x16x1.size (k1_off2_inb k 1)).toLoadRect X4)
/-- The state after 3 of a trip's eight steps. -/
def hs3 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs2 arg4 arg10 arg11 arg9 v24 X4 X10 X11 k f9)
    (View.readAt (Elt F) arg10.view (Rect.unit (s := S128x1x1024) (k1_off1 k 2#32) S1x1x1024.size (k1_off1_inb k 2)).toLoadRect X10)
    (View.readAt (Elt F) arg11.view (Rect.unit (s := S128x1x1024) (k1_off1 k 2#32) S1x1x1024.size (k1_off1_inb k 2)).toLoadRect X11)
    (View.readAt (Elt F) arg4.view (Rect.unit (s := S128x16x1) (k1_off2 k 2#32) S1x16x1.size (k1_off2_inb k 2)).toLoadRect X4)
/-- The state after 4 of a trip's eight steps. -/
def hs4 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs3 arg4 arg10 arg11 arg9 v24 X4 X10 X11 k f9)
    (View.readAt (Elt F) arg10.view (Rect.unit (s := S128x1x1024) (k1_off1 k 3#32) S1x1x1024.size (k1_off1_inb k 3)).toLoadRect X10)
    (View.readAt (Elt F) arg11.view (Rect.unit (s := S128x1x1024) (k1_off1 k 3#32) S1x1x1024.size (k1_off1_inb k 3)).toLoadRect X11)
    (View.readAt (Elt F) arg4.view (Rect.unit (s := S128x16x1) (k1_off2 k 3#32) S1x16x1.size (k1_off2_inb k 3)).toLoadRect X4)
/-- The state after 5 of a trip's eight steps. -/
def hs5 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs4 arg4 arg10 arg11 arg9 v24 X4 X10 X11 k f9)
    (View.readAt (Elt F) arg10.view (Rect.unit (s := S128x1x1024) (k1_off1 k 4#32) S1x1x1024.size (k1_off1_inb k 4)).toLoadRect X10)
    (View.readAt (Elt F) arg11.view (Rect.unit (s := S128x1x1024) (k1_off1 k 4#32) S1x1x1024.size (k1_off1_inb k 4)).toLoadRect X11)
    (View.readAt (Elt F) arg4.view (Rect.unit (s := S128x16x1) (k1_off2 k 4#32) S1x16x1.size (k1_off2_inb k 4)).toLoadRect X4)
/-- The state after 6 of a trip's eight steps. -/
def hs6 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs5 arg4 arg10 arg11 arg9 v24 X4 X10 X11 k f9)
    (View.readAt (Elt F) arg10.view (Rect.unit (s := S128x1x1024) (k1_off1 k 5#32) S1x1x1024.size (k1_off1_inb k 5)).toLoadRect X10)
    (View.readAt (Elt F) arg11.view (Rect.unit (s := S128x1x1024) (k1_off1 k 5#32) S1x1x1024.size (k1_off1_inb k 5)).toLoadRect X11)
    (View.readAt (Elt F) arg4.view (Rect.unit (s := S128x16x1) (k1_off2 k 5#32) S1x16x1.size (k1_off2_inb k 5)).toLoadRect X4)
/-- The state after 7 of a trip's eight steps. -/
def hs7 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs6 arg4 arg10 arg11 arg9 v24 X4 X10 X11 k f9)
    (View.readAt (Elt F) arg10.view (Rect.unit (s := S128x1x1024) (k1_off1 k 6#32) S1x1x1024.size (k1_off1_inb k 6)).toLoadRect X10)
    (View.readAt (Elt F) arg11.view (Rect.unit (s := S128x1x1024) (k1_off1 k 6#32) S1x1x1024.size (k1_off1_inb k 6)).toLoadRect X11)
    (View.readAt (Elt F) arg4.view (Rect.unit (s := S128x16x1) (k1_off2 k 6#32) S1x16x1.size (k1_off2_inb k 6)).toLoadRect X4)
/-- The state after 8 of a trip's eight steps. -/
def hs8 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : FVec F S16x1024 .f32 :=
  kstep (k1_pay25 v24) (hs7 arg4 arg10 arg11 arg9 v24 X4 X10 X11 k f9)
    (View.readAt (Elt F) arg10.view (Rect.unit (s := S128x1x1024) (k1_off1 k 7#32) S1x1x1024.size (k1_off1_inb k 7)).toLoadRect X10)
    (View.readAt (Elt F) arg11.view (Rect.unit (s := S128x1x1024) (k1_off1 k 7#32) S1x1x1024.size (k1_off1_inb k 7)).toLoadRect X11)
    (View.readAt (Elt F) arg4.view (Rect.unit (s := S128x16x1) (k1_off2 k 7#32) S1x16x1.size (k1_off2_inb k 7)).toLoadRect X4)
/-- What a trip stores into the state's buffer. -/
def L9 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) : List (View.Piece (Elt F) S16x1024 .f32) :=
  [⟨Rect.unit (s := S16x1024) ![0, 0] S16x1024.size inb_S16x1024_S16x1024_0_0, shapeCast S16x1024 (hs8 arg4 arg10 arg11 arg9 v24 X4 X10 X11 k f9) shapeCasts_S16x1024_S16x1024⟩]
/-- What a trip stores into the partial sums' buffer, last first. -/
def L12 (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (k : Fin k1_t1_loop.trips) (f9 : BufTy.Contents (Elt F) arg9.view.ty) : List (View.Piece (Elt F) S128x8x1024 .f32) :=
  [⟨Rect.unit (s := S128x8x1024) (k1_off3 k 7#32) S1x8x1024.size (k1_off3_inb k 7), krow (hs8 arg4 arg10 arg11 arg9 v24 X4 X10 X11 k f9) (View.readAt (Elt F) arg5.view (Rect.unit (s := S128x16x1) (k1_off2 k 7#32) S1x16x1.size (k1_off2_inb k 7)).toLoadRect X5)⟩,
   ⟨Rect.unit (s := S128x8x1024) (k1_off3 k 6#32) S1x8x1024.size (k1_off3_inb k 6), krow (hs7 arg4 arg10 arg11 arg9 v24 X4 X10 X11 k f9) (View.readAt (Elt F) arg5.view (Rect.unit (s := S128x16x1) (k1_off2 k 6#32) S1x16x1.size (k1_off2_inb k 6)).toLoadRect X5)⟩,
   ⟨Rect.unit (s := S128x8x1024) (k1_off3 k 5#32) S1x8x1024.size (k1_off3_inb k 5), krow (hs6 arg4 arg10 arg11 arg9 v24 X4 X10 X11 k f9) (View.readAt (Elt F) arg5.view (Rect.unit (s := S128x16x1) (k1_off2 k 5#32) S1x16x1.size (k1_off2_inb k 5)).toLoadRect X5)⟩,
   ⟨Rect.unit (s := S128x8x1024) (k1_off3 k 4#32) S1x8x1024.size (k1_off3_inb k 4), krow (hs5 arg4 arg10 arg11 arg9 v24 X4 X10 X11 k f9) (View.readAt (Elt F) arg5.view (Rect.unit (s := S128x16x1) (k1_off2 k 4#32) S1x16x1.size (k1_off2_inb k 4)).toLoadRect X5)⟩,
   ⟨Rect.unit (s := S128x8x1024) (k1_off3 k 3#32) S1x8x1024.size (k1_off3_inb k 3), krow (hs4 arg4 arg10 arg11 arg9 v24 X4 X10 X11 k f9) (View.readAt (Elt F) arg5.view (Rect.unit (s := S128x16x1) (k1_off2 k 3#32) S1x16x1.size (k1_off2_inb k 3)).toLoadRect X5)⟩,
   ⟨Rect.unit (s := S128x8x1024) (k1_off3 k 2#32) S1x8x1024.size (k1_off3_inb k 2), krow (hs3 arg4 arg10 arg11 arg9 v24 X4 X10 X11 k f9) (View.readAt (Elt F) arg5.view (Rect.unit (s := S128x16x1) (k1_off2 k 2#32) S1x16x1.size (k1_off2_inb k 2)).toLoadRect X5)⟩,
   ⟨Rect.unit (s := S128x8x1024) (k1_off3 k 1#32) S1x8x1024.size (k1_off3_inb k 1), krow (hs2 arg4 arg10 arg11 arg9 v24 X4 X10 X11 k f9) (View.readAt (Elt F) arg5.view (Rect.unit (s := S128x16x1) (k1_off2 k 1#32) S1x16x1.size (k1_off2_inb k 1)).toLoadRect X5)⟩,
   ⟨Rect.unit (s := S128x8x1024) (k1_off3 k 0#32) S1x8x1024.size (k1_off3_inb k 0), krow (hs1 arg4 arg10 arg11 arg9 v24 X4 X10 X11 k f9) (View.readAt (Elt F) arg5.view (Rect.unit (s := S128x16x1) (k1_off2 k 0#32) S1x16x1.size (k1_off2_inb k 0)).toLoadRect X5)⟩]
/-- The buffers a trip touches: the four that it reads, whole at their contents, and the two that it writes. -/
abbrev TripRes (c : Dev nD) (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (arg12 : Memref sig .tc .vmem S128x8x1024 .f32)
    (X4 : BufTy.Contents (Elt F) arg4.view.ty) (X5 : BufTy.Contents (Elt F) arg5.view.ty) (X10 : BufTy.Contents (Elt F) arg10.view.ty) (X11 : BufTy.Contents (Elt F) arg11.view.ty)
    (f9 : BufTy.Contents (Elt F) arg9.view.ty) (f12 : BufTy.Contents (Elt F) arg12.view.ty) : sProp (MT nD τ sig Unit (Elt F) ℕ (UR sig nD τ) ℕ) :=
  iprop((arg4.view.loc (c : Thread nD τ) ↦[arg4.view.set]{fullShare} X4) ∗ (arg5.view.loc (c : Thread nD τ) ↦[arg5.view.set]{fullShare} X5)
    ∗ (arg10.view.loc (c : Thread nD τ) ↦[arg10.view.set]{fullShare} X10) ∗ (arg11.view.loc (c : Thread nD τ) ↦[arg11.view.set]{fullShare} X11)
    ∗ (arg9.view.loc (c : Thread nD τ) ↦[arg9.view.set]{fullShare} f9) ∗ (arg12.view.loc (c : Thread nD τ) ↦[arg12.view.set]{fullShare} f12))
/-- One trip on the buffers it touches: the pieces are what the run finds. -/
def trip (𝒱 : Variants) (c : Dev nD) (bd : Option 𝒱.V) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (k : Fin k1_t1_loop.trips) :
    Σ' (L_arg9 : (BufTy.Contents (Elt F) arg9.view.ty → BufTy.Contents (Elt F) arg12.view.ty → List (View.Piece (Elt F) S16x1024 .f32))) , { L_arg12 : (BufTy.Contents (Elt F) arg9.view.ty → BufTy.Contents (Elt F) arg12.view.ty → List (View.Piece (Elt F) S128x8x1024 .f32)) // ∀ (E : Set ℕ) (f9 : BufTy.Contents (Elt F) arg9.view.ty) (f12 : BufTy.Contents (Elt F) arg12.view.ty),
      TripRes (F := F) c arg4 arg5 arg10 arg11 arg9 arg12 X4 X5 X10 X11 f9 f12
      ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 arg12 harg12 v24 k PUnit.unit)
          (fun _ => TripRes (F := F) c arg4 arg5 arg10 arg11 arg9 arg12 X4 X5 X10 X11 (arg9.view.writes (Elt F) f9 (L_arg9 f9 f12)) (arg12.view.writes (Elt F) f12 (L_arg12 f9 f12))) } := by
  have hk : k.val < 16 := Nat.lt_of_lt_of_le k.isLt k1_t1_abs.2.1
  refine ⟨?_, ?_, fun E f9 f12 => ?run⟩
  case run =>
    unfold k1_t1_body
    iintro ⟨HR_arg4, HR_arg5, HR_arg10, HR_arg11, HW_arg9, HW_arg12⟩
    sl_exec
    sl_step
    sl_close

theorem trip_L9 (𝒱 : Variants) (c : Dev nD) (bd : Option 𝒱.V) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (k : Fin k1_t1_loop.trips) (f9 : BufTy.Contents (Elt F) arg9.view.ty) (f12 : BufTy.Contents (Elt F) arg12.view.ty) :
    (trip (F := F) 𝒱 c bd i arg2 harg2 arg3 harg3 arg4 harg4 arg5 harg5 arg6 harg6 arg7 harg7 arg8 harg8 arg9 harg9 arg10 harg10 arg11 harg11 arg12 harg12 v24 X4 X5 X10 X11 k).1 f9 f12 = L9 arg4 arg10 arg11 arg9 v24 X4 X10 X11 k f9 :=
  congrArg (fun x => [(⟨Rect.unit (s := S16x1024) ![0, 0] S16x1024.size inb_S16x1024_S16x1024_0_0, x⟩ : View.Piece (Elt F) S16x1024 .f32)])
    (pay28_eq (F := F) (k1_pay25 v24) (hs7 arg4 arg10 arg11 arg9 v24 X4 X10 X11 k f9) (View.readAt (Elt F) arg10.view (Rect.unit (s := S128x1x1024) (k1_off1 k 7#32) S1x1x1024.size (k1_off1_inb k 7)).toLoadRect X10) (View.readAt (Elt F) arg11.view (Rect.unit (s := S128x1x1024) (k1_off1 k 7#32) S1x1x1024.size (k1_off1_inb k 7)).toLoadRect X11) (View.readAt (Elt F) arg4.view (Rect.unit (s := S128x16x1) (k1_off2 k 7#32) S1x16x1.size (k1_off2_inb k 7)).toLoadRect X4))
theorem trip_L12 (𝒱 : Variants) (c : Dev nD) (bd : Option 𝒱.V) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (k : Fin k1_t1_loop.trips) (f9 : BufTy.Contents (Elt F) arg9.view.ty) (f12 : BufTy.Contents (Elt F) arg12.view.ty) :
    (trip (F := F) 𝒱 c bd i arg2 harg2 arg3 harg3 arg4 harg4 arg5 harg5 arg6 harg6 arg7 harg7 arg8 harg8 arg9 harg9 arg10 harg10 arg11 harg11 arg12 harg12 v24 X4 X5 X10 X11 k).2.1 f9 f12 = L12 arg4 arg5 arg10 arg11 arg9 v24 X4 X5 X10 X11 k f9 := rfl

/-! ## The buffers before trip `k` -/

/-- The state's buffer before trip `k`. -/
def F9 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (G9 : BufTy.Contents (Elt F) arg9.view.ty) : ℕ → BufTy.Contents (Elt F) arg9.view.ty
  | 0 => G9
  | k + 1 => if h : k < k1_t1_loop.trips then arg9.view.writes (Elt F) (F9 arg4 arg10 arg11 arg9 v24 X4 X10 X11 G9 k) (L9 arg4 arg10 arg11 arg9 v24 X4 X10 X11 ⟨k, h⟩ (F9 arg4 arg10 arg11 arg9 v24 X4 X10 X11 G9 k)) else F9 arg4 arg10 arg11 arg9 v24 X4 X10 X11 G9 k
/-- The partial sums' buffer before trip `k`. -/
def F12 (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (arg12 : Memref sig .tc .vmem S128x8x1024 .f32) (G12 : BufTy.Contents (Elt F) arg12.view.ty) (G9 : BufTy.Contents (Elt F) arg9.view.ty) : ℕ → BufTy.Contents (Elt F) arg12.view.ty
  | 0 => G12
  | k + 1 => if h : k < k1_t1_loop.trips then arg12.view.writes (Elt F) (F12 arg4 arg5 arg10 arg11 arg9 v24 X4 X5 X10 X11 arg12 G12 G9 k) (L12 arg4 arg5 arg10 arg11 arg9 v24 X4 X5 X10 X11 ⟨k, h⟩ (F9 arg4 arg10 arg11 arg9 v24 X4 X10 X11 G9 k)) else F12 arg4 arg5 arg10 arg11 arg9 v24 X4 X5 X10 X11 arg12 G12 G9 k

theorem F9_succ (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (G9 : BufTy.Contents (Elt F) arg9.view.ty) :
    F9 arg4 arg10 arg11 arg9 v24 X4 X10 X11 G9 (k.val + 1) = arg9.view.writes (Elt F) (F9 arg4 arg10 arg11 arg9 v24 X4 X10 X11 G9 k) (L9 arg4 arg10 arg11 arg9 v24 X4 X10 X11 k (F9 arg4 arg10 arg11 arg9 v24 X4 X10 X11 G9 k)) := by
  rw [F9.eq_2]; exact dif_pos k.isLt
theorem F12_succ (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (k : Fin k1_t1_loop.trips) (arg12 : Memref sig .tc .vmem S128x8x1024 .f32) (G12 : BufTy.Contents (Elt F) arg12.view.ty) (G9 : BufTy.Contents (Elt F) arg9.view.ty) :
    F12 arg4 arg5 arg10 arg11 arg9 v24 X4 X5 X10 X11 arg12 G12 G9 (k.val + 1) = arg12.view.writes (Elt F) (F12 arg4 arg5 arg10 arg11 arg9 v24 X4 X5 X10 X11 arg12 G12 G9 k) (L12 arg4 arg5 arg10 arg11 arg9 v24 X4 X5 X10 X11 k (F9 arg4 arg10 arg11 arg9 v24 X4 X10 X11 G9 k)) := by
  rw [F12.eq_2]; exact dif_pos k.isLt

set_option warn.classDefReducibility false in
/-- The loop by its invariant: the buffers at `F9` and `F12`. -/
@[sl_loop] def scanInv (𝒱 : Variants) (c : Dev nD) (bd : Option 𝒱.V) (E : Set ℕ) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (G9 : BufTy.Contents (Elt F) arg9.view.ty) (G12 : BufTy.Contents (Elt F) arg12.view.ty) :
    LoopInvTy_k1_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v24 where
  inv k acc := iprop((arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11)
      ∗ (∃ f, (arg9.view.loc (c : Thread nD τ) ↦[arg9.view.set]{fullShare} f) ∗ ⌜f = F9 arg4 arg10 arg11 arg9 v24 X4 X10 X11 G9 k⌝)
      ∗ (∃ f, (arg12.view.loc (c : Thread nD τ) ↦[arg12.view.set]{fullShare} f) ∗ ⌜f = F12 arg4 arg5 arg10 arg11 arg9 v24 X4 X5 X10 X11 arg12 G12 G9 k⌝))
  step k acc := by
    iintro ⟨H4, H5, H10, H11, ⟨%f9, H9, %h9⟩, ⟨%f12, H12, %h12⟩⟩
    iapply (wp_wand_r Idealize.ShloMosaic.frame (wpE (defs₀ (F := F)) 𝒱 (c : Thread nD τ) bd) E)
    isplitl [H4 H5 H10 H11 H9 H12]
    · iapply ((trip (F := F) 𝒱 c bd i arg2 harg2 arg3 harg3 arg4 harg4 arg5 harg5 arg6 harg6 arg7 harg7 arg8 harg8 arg9 harg9 arg10 harg10 arg11 harg11 arg12 harg12 v24 X4 X5 X10 X11 k).2.2 E f9 f12)
      isplitl [H4]; · iexact H4
      isplitl [H5]; · iexact H5
      isplitl [H10]; · iexact H10
      isplitl [H11]; · iexact H11
      isplitl [H9]; · iexact H9
      iexact H12
    · iintro %_ ⟨H4, H5, H10, H11, H9, H12⟩
      isplitl [H4]; · iexact H4
      isplitl [H5]; · iexact H5
      isplitl [H10]; · iexact H10
      isplitl [H11]; · iexact H11
      rw [F9_succ, F12_succ, trip_L9, trip_L12]
      isplitl [H9]
      · iexists _; isplitl [H9]; · iexact H9
        ipureintro; rw [h9]
      iexists _; isplitl [H12]; · iexact H12
      ipureintro; rw [h9, h12]

end Trip

end Cert.KernelIdeal.Hand

end
-- ==== Proof.KI.ScanA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Loop
public import Idealize.ShloMosaic.Lib.Pointwise.Index
public import Idealize.ShloMosaic.Lib.VecWindow
public import Idealize.ShloMosaic.Lib.Pipeline.Value
public import Idealize.ShloMosaic.Lib.Pipeline.ValueKit.Tiles
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # REGION 1 of @main: what the recurrence leaves, and its body's triple -/

/-! ## The recurrence on whole blocks -/

/-- Row `n` of a block of 128 rows of 1024. -/
def rowL (D : Vec F S128x1x1024 .f32) (n : ℕ) : Vec F S1x1x1024 .f32 :=
  fun j => D (ix3 ⟨n % 128, Nat.mod_lt _ (by decide)⟩ (j 1) (j 2))
/-- Row `n` of a block of 128 rows of 16. -/
def rowB (D : Vec F S128x16x1 .f32) (n : ℕ) : Vec F S1x16x1 .f32 :=
  fun j => D (ix3 ⟨n % 128, Nat.mod_lt _ (by decide)⟩ (j 1) (j 2))
/-- The state after `n` steps from `h0`. -/
def HS (a2 : FVec F S16x1024 .f32) (D E : Vec F S128x1x1024 .f32) (B : Vec F S128x16x1 .f32) (h0 : FVec F S16x1024 .f32) : ℕ → FVec F S16x1024 .f32
  | 0 => h0
  | n + 1 => kstep a2 (HS a2 D E B h0 n) (rowL D n) (rowL E n) (rowB B n)
/-- The partial sums of all 128 steps. -/
def YP (a2 : FVec F S16x1024 .f32) (D E : Vec F S128x1x1024 .f32) (B C : Vec F S128x16x1 .f32) (h0 : FVec F S16x1024 .f32) : Vec F S128x8x1024 .f32 :=
  fun j => krow (HS a2 D E B h0 ((j 0).val + 1)) (rowB C (j 0).val) (ix3 0 (j 1) (j 2))

theorem readAt_rowL (v : View sig .tc .vmem S128x1x1024 .f32) (X : BufTy.Contents (Elt F) v.ty) (k : Fin k1_t1_loop.trips) (u : Fin 8) :
    View.readAt (Elt F) v (Rect.unit (s := S128x1x1024) (k1_off1 k (BitVec.ofNat 32 u.val)) S1x1x1024.size (k1_off1_inb k u)).toLoadRect X
      = rowL (v.read (Elt F) X) (8 * k.val + u.val) := by
  have hk : k.val < 16 := lt_of_lt_of_le k.isLt k1_t1_abs.2.1
  funext j
  refine congrArg (v.read (Elt F) X) (funext fun a => Fin.ext ((Rect.idx_unit_val _ _ _ j a).trans ?_))
  refine (congrArg (· + (j a).val) (congrFun (k1_off1_eq k u) a)).trans ?_
  match a with
  | ⟨0, _⟩ =>
    have hj : (j 0).val < 1 := (j 0).isLt
    show 8 * k.val + u.val + (j 0).val = (8 * k.val + u.val) % 128
    omega
  | ⟨1, _⟩ => exact Nat.zero_add _
  | ⟨2, _⟩ => exact Nat.zero_add _

theorem readAt_rowB (v : View sig .tc .vmem S128x16x1 .f32) (X : BufTy.Contents (Elt F) v.ty) (k : Fin k1_t1_loop.trips) (u : Fin 8) :
    View.readAt (Elt F) v (Rect.unit (s := S128x16x1) (k1_off2 k (BitVec.ofNat 32 u.val)) S1x16x1.size (k1_off2_inb k u)).toLoadRect X
      = rowB (v.read (Elt F) X) (8 * k.val + u.val) := by
  have hk : k.val < 16 := lt_of_lt_of_le k.isLt k1_t1_abs.2.1
  funext j
  refine congrArg (v.read (Elt F) X) (funext fun a => Fin.ext ((Rect.idx_unit_val _ _ _ j a).trans ?_))
  refine (congrArg (· + (j a).val) (congrFun (k1_off2_eq k u) a)).trans ?_
  match a with
  | ⟨0, _⟩ =>
    have hj : (j 0).val < 1 := (j 0).isLt
    show 8 * k.val + u.val + (j 0).val = (8 * k.val + u.val) % 128
    omega
  | ⟨1, _⟩ => exact Nat.zero_add _
  | ⟨2, _⟩ => exact Nat.zero_add _

theorem kstep_congr {a a' h h' : FVec F S16x1024 .f32} {d d' e e' : Vec F S1x1x1024 .f32} {b b' : Vec F S1x16x1 .f32}
    (ha : a = a') (hh : h = h') (hd : d = d') (he : e = e') (hb : b = b') : kstep a h d e b = kstep a' h' d' e' b' := by
  subst ha hh hd he hb; rfl

theorem hs1_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs1 arg4 arg10 arg11 arg9 v24 X4 X10 X11 k f9 = HS (k1_pay25 v24) (arg10.view.read (Elt F) X10) (arg11.view.read (Elt F) X11) (arg4.view.read (Elt F) X4) h0 (8 * k.val + 0 + 1) :=
  kstep_congr rfl hf (readAt_rowL arg10.view X10 k 0) (readAt_rowL arg11.view X11 k 0) (readAt_rowB arg4.view X4 k 0)
theorem hs2_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs2 arg4 arg10 arg11 arg9 v24 X4 X10 X11 k f9 = HS (k1_pay25 v24) (arg10.view.read (Elt F) X10) (arg11.view.read (Elt F) X11) (arg4.view.read (Elt F) X4) h0 (8 * k.val + 1 + 1) :=
  kstep_congr rfl (hs1_eq arg4 arg10 arg11 arg9 v24 X4 X10 X11 k f9 h0 hf) (readAt_rowL arg10.view X10 k 1) (readAt_rowL arg11.view X11 k 1) (readAt_rowB arg4.view X4 k 1)
theorem hs3_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs3 arg4 arg10 arg11 arg9 v24 X4 X10 X11 k f9 = HS (k1_pay25 v24) (arg10.view.read (Elt F) X10) (arg11.view.read (Elt F) X11) (arg4.view.read (Elt F) X4) h0 (8 * k.val + 2 + 1) :=
  kstep_congr rfl (hs2_eq arg4 arg10 arg11 arg9 v24 X4 X10 X11 k f9 h0 hf) (readAt_rowL arg10.view X10 k 2) (readAt_rowL arg11.view X11 k 2) (readAt_rowB arg4.view X4 k 2)
theorem hs4_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs4 arg4 arg10 arg11 arg9 v24 X4 X10 X11 k f9 = HS (k1_pay25 v24) (arg10.view.read (Elt F) X10) (arg11.view.read (Elt F) X11) (arg4.view.read (Elt F) X4) h0 (8 * k.val + 3 + 1) :=
  kstep_congr rfl (hs3_eq arg4 arg10 arg11 arg9 v24 X4 X10 X11 k f9 h0 hf) (readAt_rowL arg10.view X10 k 3) (readAt_rowL arg11.view X11 k 3) (readAt_rowB arg4.view X4 k 3)
theorem hs5_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs5 arg4 arg10 arg11 arg9 v24 X4 X10 X11 k f9 = HS (k1_pay25 v24) (arg10.view.read (Elt F) X10) (arg11.view.read (Elt F) X11) (arg4.view.read (Elt F) X4) h0 (8 * k.val + 4 + 1) :=
  kstep_congr rfl (hs4_eq arg4 arg10 arg11 arg9 v24 X4 X10 X11 k f9 h0 hf) (readAt_rowL arg10.view X10 k 4) (readAt_rowL arg11.view X11 k 4) (readAt_rowB arg4.view X4 k 4)
theorem hs6_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs6 arg4 arg10 arg11 arg9 v24 X4 X10 X11 k f9 = HS (k1_pay25 v24) (arg10.view.read (Elt F) X10) (arg11.view.read (Elt F) X11) (arg4.view.read (Elt F) X4) h0 (8 * k.val + 5 + 1) :=
  kstep_congr rfl (hs5_eq arg4 arg10 arg11 arg9 v24 X4 X10 X11 k f9 h0 hf) (readAt_rowL arg10.view X10 k 5) (readAt_rowL arg11.view X11 k 5) (readAt_rowB arg4.view X4 k 5)
theorem hs7_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs7 arg4 arg10 arg11 arg9 v24 X4 X10 X11 k f9 = HS (k1_pay25 v24) (arg10.view.read (Elt F) X10) (arg11.view.read (Elt F) X11) (arg4.view.read (Elt F) X4) h0 (8 * k.val + 6 + 1) :=
  kstep_congr rfl (hs6_eq arg4 arg10 arg11 arg9 v24 X4 X10 X11 k f9 h0 hf) (readAt_rowL arg10.view X10 k 6) (readAt_rowL arg11.view X11 k 6) (readAt_rowB arg4.view X4 k 6)
theorem hs8_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (k : Fin k1_t1_loop.trips) (f9 : BufTy.Contents (Elt F) arg9.view.ty) (h0 : FVec F S16x1024 .f32) (hf : View.readAt (Elt F) arg9.view (Rect.unit (s := S16x1024) ![0, 0] S16x1024.size inb_S16x1024_S16x1024_0_0).toLoadRect f9 = HS (k1_pay25 v24) (arg10.view.read (Elt F) X10) (arg11.view.read (Elt F) X11) (arg4.view.read (Elt F) X4) h0 (8 * k.val)) :
    hs8 arg4 arg10 arg11 arg9 v24 X4 X10 X11 k f9 = HS (k1_pay25 v24) (arg10.view.read (Elt F) X10) (arg11.view.read (Elt F) X11) (arg4.view.read (Elt F) X4) h0 (8 * k.val + 7 + 1) :=
  kstep_congr rfl (hs7_eq arg4 arg10 arg11 arg9 v24 X4 X10 X11 k f9 h0 hf) (readAt_rowL arg10.view X10 k 7) (readAt_rowL arg11.view X11 k 7) (readAt_rowB arg4.view X4 k 7)

theorem trips_eq : k1_t1_loop.trips = 16 := by decide

/-- The state's buffer before trip `k` holds the state after `8 k` steps. -/
theorem read_F9 (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (G9 : BufTy.Contents (Elt F) arg9.view.ty) (k : ℕ) (hk : k ≤ 16) :
    arg9.view.read (Elt F) (F9 arg4 arg10 arg11 arg9 v24 X4 X10 X11 G9 k) = HS (k1_pay25 v24) (arg10.view.read (Elt F) X10) (arg11.view.read (Elt F) X11) (arg4.view.read (Elt F) X4) (arg9.view.read (Elt F) G9) (8 * k) := by
  induction k with
  | zero => rfl
  | succ k ih =>
    have hk' : k < k1_t1_loop.trips := by rw [trips_eq]; omega
    refine (congrArg (arg9.view.read (Elt F)) (F9_succ arg4 arg10 arg11 arg9 v24 X4 X10 X11 ⟨k, hk'⟩ G9)).trans ?_
    unfold L9
    refine (View.read_writes_full arg9.view _ _ _ []).trans ?_
    rw [shapeCast_self]
    exact hs8_eq arg4 arg10 arg11 arg9 v24 X4 X10 X11 ⟨k, hk'⟩ _ _ ((View.readAt_full arg9.view _ _).trans (ih (by omega)))

/-- One row's store, read back. -/
theorem read_row (v : View sig .tc .vmem S128x8x1024 .f32) (f : BufTy.Contents (Elt F) v.ty) (k : Fin k1_t1_loop.trips) (u : Fin 8)
    (w : Vec F S1x8x1024 .f32) (L : List (View.Piece (Elt F) S128x8x1024 .f32)) (y : S128x8x1024.Idx) :
    v.read (Elt F) (v.writes (Elt F) f (⟨Rect.unit (s := S128x8x1024) (k1_off3 k (BitVec.ofNat 32 u.val)) S1x8x1024.size (k1_off3_inb k u), w⟩ :: L)) y
      = if (y 0).val = 8 * k.val + u.val then w (ix3 0 (y 1) (y 2)) else v.read (Elt F) (v.writes (Elt F) f L) y := by
  split
  · rename_i h
    refine View.read_writes_cons_unit_of_mem v f _ w L y _ (k1_off3_eq k u) fun a => ?_
    match a with
    | ⟨0, _⟩ => exact h
    | ⟨1, _⟩ => exact (Nat.zero_add _).symm
    | ⟨2, _⟩ => exact (Nat.zero_add _).symm
  · rename_i h
    refine View.read_writes_cons_unit_of_not_mem v f _ w L y (k1_off3_eq k u) 0 ?_
    show (y 0).val < 8 * k.val + u.val ∨ 8 * k.val + u.val + 1 ≤ (y 0).val
    omega

theorem YP_apply {a2 : FVec F S16x1024 .f32} {D E : Vec F S128x1x1024 .f32} {B C : Vec F S128x16x1 .f32} {h0 h : FVec F S16x1024 .f32} {c : Vec F S1x16x1 .f32}
    (y : S128x8x1024.Idx) (n : ℕ) (hy : (y 0).val = n) (hh : h = HS a2 D E B h0 (n + 1)) (hc : c = rowB C n) :
    krow h c (ix3 0 (y 1) (y 2)) = YP a2 D E B C h0 y := by
  subst hh hc hy; rfl

/-- The partial sums' buffer before trip `k` holds the first `8 k` rows. -/
theorem read_F12 (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (arg12 : Memref sig .tc .vmem S128x8x1024 .f32) (G12 : BufTy.Contents (Elt F) arg12.view.ty) (G9 : BufTy.Contents (Elt F) arg9.view.ty) (k : ℕ) (hk : k ≤ 16) (y : S128x8x1024.Idx) (hy : (y 0).val < 8 * k) :
    arg12.view.read (Elt F) (F12 arg4 arg5 arg10 arg11 arg9 v24 X4 X5 X10 X11 arg12 G12 G9 k) y
      = YP (k1_pay25 v24) (arg10.view.read (Elt F) X10) (arg11.view.read (Elt F) X11) (arg4.view.read (Elt F) X4) (arg5.view.read (Elt F) X5) (arg9.view.read (Elt F) G9) y := by
  induction k with
  | zero => exact absurd hy (Nat.not_lt_zero _)
  | succ k ih =>
    have hk' : k < k1_t1_loop.trips := by rw [trips_eq]; omega
    have hf : View.readAt (Elt F) arg9.view (Rect.unit (s := S16x1024) ![0, 0] S16x1024.size inb_S16x1024_S16x1024_0_0).toLoadRect (F9 arg4 arg10 arg11 arg9 v24 X4 X10 X11 G9 k) = HS (k1_pay25 v24) (arg10.view.read (Elt F) X10) (arg11.view.read (Elt F) X11) (arg4.view.read (Elt F) X4) (arg9.view.read (Elt F) G9) (8 * k) :=
      (View.readAt_full arg9.view _ _).trans (read_F9 arg4 arg10 arg11 arg9 v24 X4 X10 X11 G9 k (by omega))
    refine (congrArg (fun f => arg12.view.read (Elt F) f y) (F12_succ arg4 arg5 arg10 arg11 arg9 v24 X4 X5 X10 X11 ⟨k, hk'⟩ arg12 G12 G9)).trans ?_
    unfold L12
    refine (read_row arg12.view _ ⟨k, hk'⟩ 7 _ _ y).trans ?_
    split
    · rename_i h
      exact YP_apply y (8 * k + 7) h (hs8_eq arg4 arg10 arg11 arg9 v24 X4 X10 X11 ⟨k, hk'⟩ _ _ hf) (readAt_rowB arg5.view X5 ⟨k, hk'⟩ 7)
    rename_i h7
    refine (read_row arg12.view _ ⟨k, hk'⟩ 6 _ _ y).trans ?_
    split
    · rename_i h
      exact YP_apply y (8 * k + 6) h (hs7_eq arg4 arg10 arg11 arg9 v24 X4 X10 X11 ⟨k, hk'⟩ _ _ hf) (readAt_rowB arg5.view X5 ⟨k, hk'⟩ 6)
    rename_i h6
    refine (read_row arg12.view _ ⟨k, hk'⟩ 5 _ _ y).trans ?_
    split
    · rename_i h
      exact YP_apply y (8 * k + 5) h (hs6_eq arg4 arg10 arg11 arg9 v24 X4 X10 X11 ⟨k, hk'⟩ _ _ hf) (readAt_rowB arg5.view X5 ⟨k, hk'⟩ 5)
    rename_i h5
    refine (read_row arg12.view _ ⟨k, hk'⟩ 4 _ _ y).trans ?_
    split
    · rename_i h
      exact YP_apply y (8 * k + 4) h (hs5_eq arg4 arg10 arg11 arg9 v24 X4 X10 X11 ⟨k, hk'⟩ _ _ hf) (readAt_rowB arg5.view X5 ⟨k, hk'⟩ 4)
    rename_i h4
    refine (read_row arg12.view _ ⟨k, hk'⟩ 3 _ _ y).trans ?_
    split
    · rename_i h
      exact YP_apply y (8 * k + 3) h (hs4_eq arg4 arg10 arg11 arg9 v24 X4 X10 X11 ⟨k, hk'⟩ _ _ hf) (readAt_rowB arg5.view X5 ⟨k, hk'⟩ 3)
    rename_i h3
    refine (read_row arg12.view _ ⟨k, hk'⟩ 2 _ _ y).trans ?_
    split
    · rename_i h
      exact YP_apply y (8 * k + 2) h (hs3_eq arg4 arg10 arg11 arg9 v24 X4 X10 X11 ⟨k, hk'⟩ _ _ hf) (readAt_rowB arg5.view X5 ⟨k, hk'⟩ 2)
    rename_i h2
    refine (read_row arg12.view _ ⟨k, hk'⟩ 1 _ _ y).trans ?_
    split
    · rename_i h
      exact YP_apply y (8 * k + 1) h (hs2_eq arg4 arg10 arg11 arg9 v24 X4 X10 X11 ⟨k, hk'⟩ _ _ hf) (readAt_rowB arg5.view X5 ⟨k, hk'⟩ 1)
    rename_i h1
    refine (read_row arg12.view _ ⟨k, hk'⟩ 0 _ _ y).trans ?_
    split
    · rename_i h
      exact YP_apply y (8 * k + 0) h (hs1_eq arg4 arg10 arg11 arg9 v24 X4 X10 X11 ⟨k, hk'⟩ _ _ hf) (readAt_rowB arg5.view X5 ⟨k, hk'⟩ 0)
    rename_i h0
    refine ih (by omega) ?_
    replace h0 : ¬ (y 0).val = 8 * k + 0 := h0
    replace h1 : ¬ (y 0).val = 8 * k + 1 := h1
    replace h2 : ¬ (y 0).val = 8 * k + 2 := h2
    replace h3 : ¬ (y 0).val = 8 * k + 3 := h3
    replace h4 : ¬ (y 0).val = 8 * k + 4 := h4
    replace h5 : ¬ (y 0).val = 8 * k + 5 := h5
    replace h6 : ¬ (y 0).val = 8 * k + 6 := h6
    replace h7 : ¬ (y 0).val = 8 * k + 7 := h7
    omega

end Cert.KernelIdeal.Hand

end
-- ==== Proof.KI.ScanB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.ScanA
public import Idealize.ShloMosaic.Lib.Pointwise.Index
public import Idealize.ShloMosaic.Lib.VecWindow
public import Idealize.ShloMosaic.Lib.Pipeline.Value
public import Idealize.ShloMosaic.Lib.Pipeline.ValueKit.Tiles
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # REGION 1 of @main: the body's triple -/

/-- The state a point leaves: 128 steps from `h0`. -/
def hOut (x0 x1 : Vec F S128x1024 .f32) (x2 : Vec F S128x16x1 .f32) (x4 : Vec F S16x1024 .f32) (h0 : FVec F S16x1024 .f32) : Vec F S16x1024 .f32 :=
  HS (k1_pay25 x4) (k1_pay23 x0) (k1_pay24 x0 x1) x2 h0 128
/-- The block a point writes: the 128 rows of partial sums, each summed over its 8 parts by the product with `x5`. -/
def yOut (x0 x1 : Vec F S128x1024 .f32) (x2 x3 : Vec F S128x16x1 .f32) (x4 : Vec F S16x1024 .f32) (x5 : Vec F S128x1024 .f32) (h0 : FVec F S16x1024 .f32) : Vec F S128x1x1024 .f32 :=
  k1_pay1 (YP (k1_pay25 x4) (k1_pay23 x0) (k1_pay24 x0 x1) x2 x3 h0) x5

/-- The condition of the body's `scf.if`: the second grid coordinate is zero. -/
abbrev cond1 (i : grid1.Coords) : Prop := (Scalar.cmpi .ne (Scalar.extui (Scalar.cmpi .eq (BitVec.ofNat 32 (i 1).val) 0#32)) 0#32) = 1#1
/-- It holds at the points ≡ 0 (mod 16). -/
theorem hcond1 : ∀ t : Fin cfg1.N, cond1 (grid1.coords t) ↔ t.val % 16 = 0 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [cond1, e0, e1]
    word_cmp
   : ∀ t : Fin grid1.N, cond1 (grid1.coords t) ↔ t.val % 16 = 0)

/-- The state's buffer after the loop. -/
theorem state_eq (arg4 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X10 : BufTy.Contents (Elt F) arg10.view.ty) (X11 : BufTy.Contents (Elt F) arg11.view.ty) (G9 : BufTy.Contents (Elt F) arg9.view.ty) {a2 : FVec F S16x1024 .f32} {D E : Vec F S128x1x1024 .f32} {B : Vec F S128x16x1 .f32} {h0 : FVec F S16x1024 .f32} {n : ℕ} (hn : n = 16)
    (hv : k1_pay25 v24 = a2) (hD : arg10.view.read (Elt F) X10 = D) (hE : arg11.view.read (Elt F) X11 = E) (hB : arg4.view.read (Elt F) X4 = B) (h9 : arg9.view.read (Elt F) G9 = h0) :
    arg9.view.read (Elt F) (F9 arg4 arg10 arg11 arg9 v24 X4 X10 X11 G9 n) = HS a2 D E B h0 128 := by
  subst hn hv hD hE hB h9
  exact read_F9 arg4 arg10 arg11 arg9 v24 X4 X10 X11 G9 16 le_rfl
/-- The partial sums' buffer after the loop. -/
theorem parts_eq (arg4 : Memref sig .tc .vmem S128x16x1 .f32) (arg5 : Memref sig .tc .vmem S128x16x1 .f32) (arg10 : Memref sig .tc .vmem S128x1x1024 .f32) (arg11 : Memref sig .tc .vmem S128x1x1024 .f32) (arg9 : Memref sig .tc .vmem S16x1024 .f32) (v24 : Vec F S16x1024 .f32) (X4 : BufTy.Contents (Elt F) arg4.view.ty) (X5 : BufTy.Contents (Elt F) arg5.view.ty) (X10 : BufTy.Contents (Elt F) arg10.view.ty) (X11 : BufTy.Contents (Elt F) arg11.view.ty) (arg12 : Memref sig .tc .vmem S128x8x1024 .f32) (G12 : BufTy.Contents (Elt F) arg12.view.ty) (G9 : BufTy.Contents (Elt F) arg9.view.ty) {a2 : FVec F S16x1024 .f32} {D E : Vec F S128x1x1024 .f32} {B C : Vec F S128x16x1 .f32} {h0 : FVec F S16x1024 .f32} {n : ℕ} (hn : n = 16)
    (hv : k1_pay25 v24 = a2) (hD : arg10.view.read (Elt F) X10 = D) (hE : arg11.view.read (Elt F) X11 = E) (hB : arg4.view.read (Elt F) X4 = B) (hC : arg5.view.read (Elt F) X5 = C) (h9 : arg9.view.read (Elt F) G9 = h0) :
    arg12.view.read (Elt F) (F12 arg4 arg5 arg10 arg11 arg9 v24 X4 X5 X10 X11 arg12 G12 G9 n) = YP a2 D E B C h0 := by
  subst hn hv hD hE hB hC h9
  funext y
  exact read_F12 arg4 arg5 arg10 arg11 arg9 v24 X4 X5 X10 X11 arg12 G12 G9 16 le_rfl y (y 0).isLt

set_option maxHeartbeats 4000000 in
/-- The body on whole staging memrefs, at a point that starts afresh. -/
theorem sound_kernel1_A (c : Dev nD) (E : Set ℕ) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (hc0 : cond1 i) (x0 : Vec F S128x1024 .f32) (x1 : Vec F S128x1024 .f32) (x2 : Vec F S128x16x1 .f32) (x3 : Vec F S128x16x1 .f32) (x4 : Vec F S16x1024 .f32) (x5 : Vec F S128x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yOut x0 x1 x2 x3 x4 x5 k1_pay21) ∗ owns (c : Thread nD τ) arg9 fullShare (hOut x0 x1 x2 x4 k1_pay21) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_mamba_scan i arg2 harg2 arg3 harg3 arg4 harg4 arg5 harg5 arg6 harg6 arg7 harg7 arg8 harg8 arg9 harg9 arg10 harg10 arg11 harg11 arg12 harg12) K := by
  simp only [cc1_mamba_scan_eq_skeleton]; unfold cc1_mamba_scan_skel
  simp only [k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact (View.read_writes_full arg8.view _ _ _ []).trans (congr (congrArg k1_pay1 ((View.readAt_full arg12.view _ _).trans
      (parts_eq arg4 arg5 arg10 arg11 arg9 _ _ _ _ _ arg12 _ _ trips_eq (congrArg k1_pay25 (View.readAt_full arg6.view _ _))
      ((View.read_writes_full arg10.view _ _ _ []).trans (congrArg k1_pay23 (View.readAt_full arg2.view _ _)))
      ((View.read_writes_full arg11.view _ _ _ []).trans (congr (congrArg k1_pay24 (View.readAt_full arg2.view _ _)) (View.readAt_full arg3.view _ _)))
      rfl rfl (View.read_writes_full arg9.view _ _ _ [])))) (View.readAt_full arg7.view _ _))
  isplitl [HS0]
  · iexists _; isplitr
    swap; · iexact HS0
    ipureintro
    exact state_eq arg4 arg10 arg11 arg9 _ _ _ _ _ trips_eq (congrArg k1_pay25 (View.readAt_full arg6.view _ _))
      ((View.read_writes_full arg10.view _ _ _ []).trans (congrArg k1_pay23 (View.readAt_full arg2.view _ _)))
      ((View.read_writes_full arg11.view _ _ _ []).trans (congr (congrArg k1_pay24 (View.readAt_full arg2.view _ _)) (View.readAt_full arg3.view _ _)))
      rfl (View.read_writes_full arg9.view _ _ _ [])
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 4000000 in
/-- The body on whole staging memrefs, at a point that goes on from the state `h0`. -/
theorem sound_kernel1_B (c : Dev nD) (E : Set ℕ) (i : grid1.Coords) (arg2 : Memref sig .tc .vmem S128x1024 .f32) (harg2 : arg2.IsWhole) (arg3 : Memref sig .tc .vmem S128x1024 .f32) (harg3 : arg3.IsWhole) (arg4 : Memref sig .tc .vmem S128x16x1 .f32) (harg4 : arg4.IsWhole) (arg5 : Memref sig .tc .vmem S128x16x1 .f32) (harg5 : arg5.IsWhole) (arg6 : Memref sig .tc .vmem S16x1024 .f32) (harg6 : arg6.IsWhole) (arg7 : Memref sig .tc .vmem S128x1024 .f32) (harg7 : arg7.IsWhole) (arg8 : Memref sig .tc .vmem S128x1x1024 .f32) (harg8 : arg8.IsWhole) (arg9 : Memref sig .tc .vmem S16x1024 .f32) (harg9 : arg9.IsWhole) (arg10 : Memref sig .tc .vmem S128x1x1024 .f32) (harg10 : arg10.IsWhole) (arg11 : Memref sig .tc .vmem S128x1x1024 .f32) (harg11 : arg11.IsWhole) (arg12 : Memref sig .tc .vmem S128x8x1024 .f32) (harg12 : arg12.IsWhole) (hc0 : ¬ cond1 i) (x0 : Vec F S128x1024 .f32) (x1 : Vec F S128x1024 .f32) (x2 : Vec F S128x16x1 .f32) (x3 : Vec F S128x16x1 .f32) (x4 : Vec F S16x1024 .f32) (x5 : Vec F S128x1024 .f32) (h0 : Vec F S16x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare h0 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yOut x0 x1 x2 x3 x4 x5 h0) ∗ owns (c : Thread nD τ) arg9 fullShare (hOut x0 x1 x2 x4 h0) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_mamba_scan i arg2 harg2 arg3 harg3 arg4 harg4 arg5 harg5 arg6 harg6 arg7 harg7 arg8 harg8 arg9 harg9 arg10 harg10 arg11 harg11 arg12 harg12) K := by
  simp only [cc1_mamba_scan_eq_skeleton]; unfold cc1_mamba_scan_skel
  simp only [k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%ds1, %fs1, -, HS1⟩, ⟨%ds2, %fs2, -, HS2⟩, ⟨%ds3, %fs3, -, HS3⟩, Hk⟩
  subst hf0 hf1 hf2 hf3 hf4 hf5 hs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact (View.read_writes_full arg8.view _ _ _ []).trans (congr (congrArg k1_pay1 ((View.readAt_full arg12.view _ _).trans
      (parts_eq arg4 arg5 arg10 arg11 arg9 _ _ _ _ _ arg12 _ _ trips_eq (congrArg k1_pay25 (View.readAt_full arg6.view _ _))
      ((View.read_writes_full arg10.view _ _ _ []).trans (congrArg k1_pay23 (View.readAt_full arg2.view _ _)))
      ((View.read_writes_full arg11.view _ _ _ []).trans (congr (congrArg k1_pay24 (View.readAt_full arg2.view _ _)) (View.readAt_full arg3.view _ _)))
      rfl rfl rfl))) (View.readAt_full arg7.view _ _))
  isplitl [HS0]
  · iexists _; isplitr
    swap; · iexact HS0
    ipureintro
    exact state_eq arg4 arg10 arg11 arg9 _ _ _ _ _ trips_eq (congrArg k1_pay25 (View.readAt_full arg6.view _ _))
      ((View.read_writes_full arg10.view _ _ _ []).trans (congrArg k1_pay23 (View.readAt_full arg2.view _ _)))
      ((View.read_writes_full arg11.view _ _ _ []).trans (congr (congrArg k1_pay24 (View.readAt_full arg2.view _ _)) (View.readAt_full arg3.view _ _)))
      rfl rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand

end
-- ==== Proof.KI.Scan.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.ScanB
public import Idealize.ShloMosaic.Lib.Pointwise.Index
public import Idealize.ShloMosaic.Lib.VecWindow
public import Idealize.ShloMosaic.Lib.Pipeline.Value
public import Idealize.ShloMosaic.Lib.Pipeline.ValueKit.Tiles
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: `cc1_mamba_scan` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The state between points -/

/-- The state after point `n`: 128 steps on from the state before it, which is zero where a block of 16 points starts. -/
def hAt (c : Dev nD) : (n : ℕ) → n < cfg1.N → Vec F S16x1024 .f32
  | 0, hn => hOut (iblk1 V c 0 ⟨0, hn⟩) (iblk1 V c 1 ⟨0, hn⟩) (iblk1 V c 2 ⟨0, hn⟩) (iblk1 V c 4 ⟨0, hn⟩) k1_pay21
  | n + 1, hn => hOut (iblk1 V c 0 ⟨n + 1, hn⟩) (iblk1 V c 1 ⟨n + 1, hn⟩) (iblk1 V c 2 ⟨n + 1, hn⟩) (iblk1 V c 4 ⟨n + 1, hn⟩)
      (if (n + 1) % 16 = 0 then k1_pay21 else hAt c n (Nat.lt_of_succ_lt hn))
/-- The state before point `t`. -/
def hBefore (c : Dev nD) (t : Fin cfg1.N) : Vec F S16x1024 .f32 :=
  if t.val % 16 = 0 then k1_pay21 else hAt V c (t.val - 1) (lt_of_le_of_lt (Nat.sub_le _ _) t.isLt)
theorem hBefore_A (c : Dev nD) (t : Fin cfg1.N) (h : t.val % 16 = 0) : hBefore V c t = k1_pay21 := if_pos h
theorem hBefore_B (c : Dev nD) (t : Fin cfg1.N) (h : ¬ t.val % 16 = 0) : hBefore V c t = hAt V c (t.val - 1) (lt_of_le_of_lt (Nat.sub_le _ _) t.isLt) := if_neg h
theorem hAt_eq (c : Dev nD) (t : Fin cfg1.N) :
    hAt V c t.val t.isLt = hOut (iblk1 V c 0 t) (iblk1 V c 1 t) (iblk1 V c 2 t) (iblk1 V c 4 t) (hBefore V c t) := by
  obtain ⟨n, hn⟩ := t
  cases n with
  | zero => rfl
  | succ n => rfl

/-- The scoped buffers of the other calls. -/
def scRest (c : Dev nD) : sProp 𝕄 := Pipeline.scopedRestBut (Ix := Unit) (Name := ℕ) (U := UR sig nD τ) (Lvl := ℕ) (Val := Elt F) spec1 c [cc1_scratch0, cc1_scratch1, cc1_scratch2, cc1_scratch3]

theorem PhiA1_eq (c : Dev nD) : (Pipeline.ΦA spec1 c : sProp 𝕄) = iprop(iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ scRest c) ∗ (∃ r, prngReg c r)) := by
  unfold Pipeline.ΦA; rw [scopedRest1_split]; simp only [owns_whole]; try rfl

/-- The invariant before point `n`: the state's scratch at what the point before left. -/
def PhiS (c : Dev nD) : (n : ℕ) → n ≤ cfg1.N → sProp 𝕄
  | 0, _ => Pipeline.ΦA spec1 c
  | n + 1, hn => iprop(iprop(owns (c : Thread nD τ) (Memref.whole cc1_scratch0) fullShare (hAt V c n hn) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ scRest c ∗ (∃ r, prngReg c r))
theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) : PhiS V c (n + 1) hn = iprop(iprop(owns (c : Thread nD τ) (Memref.whole cc1_scratch0) fullShare (hAt V c n hn) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ scRest c ∗ (∃ r, prngReg c r)) := rfl
theorem PhiS_pos (c : Dev nD) (n : ℕ) (h : n ≤ cfg1.N) (hz : n ≠ 0) : PhiS V c n h = iprop(iprop(owns (c : Thread nD τ) (Memref.whole cc1_scratch0) fullShare (hAt V c (n - 1) (by omega)) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ scRest c ∗ (∃ r, prngReg c r)) := by
  cases n with
  | zero => exact absurd rfl hz
  | succ n => rfl

/-! ## The pipeline's proof data -/

/-- The proof data of pipeline 1: inputs at their blocks, the output at `yOut` of them and of the state before the point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => yOut (iblk1 V c 0 t) (iblk1 V c 1 t) (iblk1 V c 2 t) (iblk1 V c 3 t) (iblk1 V c 4 t) (iblk1 V c 5 t) (hBefore V c t)
  Φ t := PhiS V c t.val (Nat.le_of_lt_succ t.isLt)
  q _ := fullShare
  owed _ := 0
theorem A_eq1 (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; exact Pipeline.Dat.Φ_castSucc (PhiS V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = yOut (iblk1 V c 0 t) (iblk1 V c 1 t) (iblk1 V c 2 t) (iblk1 V c 3 t) (iblk1 V c 4 t) (iblk1 V c 5 t) (hBefore V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 3200000 in
/-- The body at any point: the case the point is in, its triple, and the state handed on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = PhiS V c (t.val + 1) t.isLt from rfl, PhiS_succ, PhiS_castSucc V c t]
  rw [hAt_eq V c t]
  by_cases h0 : t.val % 16 = 0
  · by_cases hz : t.val = 0
    · rw [PhiS_zero V c _ _ hz, PhiA1_eq]
      rw [hBefore_A V c t h0]
      iintro ⟨⟨⟨⟨HS0, HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 HR Hg]
      · isplitl [HS0 HS1 HS2 HS3]
        · isplitl [HS0]; · iexact HS0
          isplitl [HS1]; · iexact HS1
          isplitl [HS2]; · iexact HS2
          iexact HS3
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_pos V c _ _ hz]
      rw [hBefore_A V c t h0]
      iintro ⟨⟨⟨HS0, HS1, HS2, HS3⟩, HR, Hg⟩, Ho, ⟨%d0, H0⟩, ⟨%d1, H1⟩, ⟨%d2, H2⟩, ⟨%d3, H3⟩, ⟨%d4, H4⟩, ⟨%d5, H5⟩, ⟨%d6, H6⟩⟩
      iapply (sound_kernel1_A c Set.univ (grid1.coords t) _ _ _ _ _ _ _ _ _ _ _ _ _ _ _ _ _ _ _ _ _ _ ((hcond1 t).mpr h0) (iblk1 V c 0 t) (iblk1 V c 1 t) (iblk1 V c 2 t) (iblk1 V c 3 t) (iblk1 V c 4 t) (iblk1 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 HR Hg]
      · isplitl [HS0 HS1 HS2 HS3]
        · isplitl [HS0]; · iexact HS0
          isplitl [HS1]; · iexact HS1
          isplitl [HS2]; · iexact HS2
          iexact HS3
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by omega)
    rw [PhiS_pos V c _ _ hz]
    rw [hBefore_B V c t h0]
    iintro ⟨⟨⟨HS0, HS1, HS2, HS3⟩, HR, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ _ _ _ _ _ _ _ _ (fun h => h0 ((hcond1 t).mp h)) (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 HR Hg]
    · isplitl [HS0 HS1 HS2 HS3]
      · isplitl [HS0]; · iexact HS0
        isplitl [HS1]; · iexact HS1
        isplitl [HS2]; · iexact HS2
        iexact HS3
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨HS0, HS1, HS2, HS3⟩, HR, Hg⟩
  isplitl [HS0 HS1 HS2 HS3 HR]
  · isplitl [HS0 HS1 HS2 HS3]
    · isplitl [HS0]
      · iexists _; iexact HS0
      isplitl [HS1]
      · iexact HS1
      isplitl [HS2]
      · iexact HS2
      iexact HS3
    iexact HR
  iexact Hg

end Cert.KernelIdeal.Hand

end
-- ==== Proof.KI.Gate.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2_mamba_gate` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x2048 := Rect.unit (s := S512x2048) ![0, 0] S512x2048.size inb_S512x2048_S512x2048_0_0
abbrev r2_1 : Rect S1x2048 := Rect.unit (s := S1x2048) ![0, 0] S1x2048.size inb_S1x2048_S1x2048_0_0
abbrev r2_2 : Rect S2048x1024 := Rect.unit (s := S2048x1024) ![0, 0] S2048x1024.size inb_S2048x1024_S2048x1024_0_0
abbrev r2_3 : Rect S512x1024 := Rect.unit (s := S512x1024) ![0, 0] S512x1024.size inb_S512x1024_S512x1024_0_0

/-! ## What the body leaves in each output window's buffer -/

/-- Window 5's staging buffer after the body, from the input windows' blocks: its one store, as a piece. -/
def out2_5 (x0 : Vec F S512x2048 .f32) (x1 : Vec F S512x2048 .f32) (x2 : Vec F S512x2048 .f32) (x3 : Vec F S1x2048 .f32) (x4 : Vec F S2048x1024 .f32) : Vec F S512x1024 .f32 :=
  View.canon [⟨r2_3, k2_pay1 (View.ld x0 r2_0) (View.ld x1 r2_0) (View.ld x3 r2_1) (View.ld x2 r2_0) (View.ld x4 r2_2)⟩]

/-- Its stores tile the buffer (checked by evaluation), so they cover it. -/
theorem cover2_5 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S2048x1024 .f32) (harg6 : arg6.IsWhole) (arg7 : Memref sig .tc .vmem S512x1024 .f32) (harg7 : arg7.IsWhole)
    (x0 : Vec F S512x2048 .f32) (x1 : Vec F S512x2048 .f32) (x2 : Vec F S512x2048 .f32) (x3 : Vec F S1x2048 .f32) (x4 : Vec F S2048x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4)) -∗ K ⟨⟩))
      ⊢ wp frame (wpE (defs₀ (F := F)) Variants.none c none) E (cc2_mamba_gate i arg2 harg2 arg3 harg3 arg4 harg4 arg5 harg5 arg6 harg6 arg7 harg7) K := by
  simp only [cc2_mamba_gate_eq_skeleton]; unfold cc2_mamba_gate_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KI.Run.lean ====
module

public import proofs.«01_k».proof.Proof.Gen.KernelIdeal.Launch
public import proofs.«01_k».proof.Proof.KI.Proj
public import proofs.«01_k».proof.Proof.KI.Scan
public import proofs.«01_k».proof.Proof.KI.Gate
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of @main: six host stretches and three calls -/

/-- The argument arrays. -/
abbrev argRefs : List (Ref sig .tc) := [main_arg0, main_arg1, main_arg2, main_arg3, main_arg4, main_arg5, main_arg6, main_arg7, main_arg8, main_arg9]

/-! ## The host stretches -/

theorem hostOps0_fresh : (hostOps0 : List (HloOp τ sig (Elt F))).Forall fun op => op.fresh = ∅ := by
  simp only [List.Forall]; repeat' constructor
/-- What `hostOps0` writes, in order. -/
abbrev hostOps0_W : List (Ref sig .tc) := [main_cst, main_v0, main_v1, main_v2, main_v3, main_v4, main_v5, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps0_1_fresh : (hostOps0_1 : List (HloOp τ sig (Elt F))).Forall fun op => op.fresh = ∅ := by
  simp only [List.Forall]; repeat' constructor
/-- What `hostOps0_1` writes, in order. -/
abbrev hostOps0_1_W : List (Ref sig .tc) := [main_call0_v0, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)
theorem hostOps0_2_fresh : (hostOps0_2 : List (HloOp τ sig (Elt F))).Forall fun op => op.fresh = ∅ := by
  simp only [List.Forall]; repeat' constructor
/-- What `hostOps0_2` writes, in order. -/
abbrev hostOps0_2_W : List (Ref sig .tc) := [main_v7, main_v8, main_v9, main_v10]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)
theorem hostOps1_fresh : (hostOps1 : List (HloOp τ sig (Elt F))).Forall fun op => op.fresh = ∅ := by
  simp only [List.Forall]; repeat' constructor
/-- What `hostOps1` writes, in order. -/
abbrev hostOps1_W : List (Ref sig .tc) := [main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)
theorem hostOps2_fresh : (hostOps2 : List (HloOp τ sig (Elt F))).Forall fun op => op.fresh = ∅ := by
  simp only [List.Forall]; repeat' constructor
/-- What `hostOps2` writes, in order. -/
abbrev hostOps2_W : List (Ref sig .tc) := [main_v17, main_v18]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)
theorem hostOps3_fresh : (hostOps3 : List (HloOp τ sig (Elt F))).Forall fun op => op.fresh = ∅ := by
  simp only [List.Forall]; repeat' constructor
/-- What `hostOps3` writes, in order. -/
abbrev hostOps3_W : List (Ref sig .tc) := [main_v20]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-! ## The buffers at each boundary -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The buffers region 0 is entered with. -/
abbrev V3 : (c : Dev nD) → (b : Ref sig .tc) → Buf (Elt F) ((c : Thread nD τ).loc b) := fun c b => W3 m ρ c b
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact (dat0 (V3 m ρ) c).withArrays_arrAt launch₀0.sharedIn _ (A_eq0 (V3 m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The buffers region 0 leaves. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The buffers region 1 is entered with. -/
abbrev V5 : (c : Dev nD) → (b : Ref sig .tc) → Buf (Elt F) ((c : Thread nD τ).loc b) := fun c b => W5 m ρ c b
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The buffers region 1 leaves. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- The buffers region 2 is entered with. -/
abbrev V7 : (c : Dev nD) → (b : Ref sig .tc) → Buf (Elt F) ((c : Thread nD τ).loc b) := fun c b => W7 m ρ c b
/-- After region 2: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The buffers region 2 leaves. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)
/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c); unfold Pipeline.ΦA
    iintro ⟨Hp, -, Hr⟩
    isplitl [Hr]; · iexact Hr
    iexact Hp
  hout c := by
    rw [Pipeline.ownSems0_none]; refine BIBase.Entails.trans (hout1 (V5 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution of @main ends, with the result at `W9`, the arguments as launched and every counter at zero. -/
theorem run : θ_run defs (onTc (τ := τ) (main (F := F))) ⟨m, fun _ => 0, ρ⟩ (fun r => (∀ c : Dev nD,
      r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v20 (by decide)),
       (h c _ (mem_uc main_arg0 (by decide))).trans (W9_args m ρ c main_arg0 (by decide)),
       (h c _ (mem_uc main_arg1 (by decide))).trans (W9_args m ρ c main_arg1 (by decide)),
       (h c _ (mem_uc main_arg2 (by decide))).trans (W9_args m ρ c main_arg2 (by decide)),
       (h c _ (mem_uc main_arg3 (by decide))).trans (W9_args m ρ c main_arg3 (by decide)),
       (h c _ (mem_uc main_arg4 (by decide))).trans (W9_args m ρ c main_arg4 (by decide)),
       (h c _ (mem_uc main_arg5 (by decide))).trans (W9_args m ρ c main_arg5 (by decide)),
       (h c _ (mem_uc main_arg6 (by decide))).trans (W9_args m ρ c main_arg6 (by decide)),
       (h c _ (mem_uc main_arg7 (by decide))).trans (W9_args m ρ c main_arg7 (by decide)),
       (h c _ (mem_uc main_arg8 (by decide))).trans (W9_args m ρ c main_arg8 (by decide)),
       (h c _ (mem_uc main_arg9 (by decide))).trans (W9_args m ρ c main_arg9 (by decide))⟩), funext fun g => hz g (.inr (no_unscoped g.2))⟩)

/-- The frame: the same without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run m ρ)

end Cert.KernelIdeal.Hand

end
-- ==== Proof.RI.Run.lean ====
module

public import proofs.«01_k».proof.Proof.Gen.ReferenceIdeal.Run
public import Idealize.ShloMosaic.Lib.Quiescent
public import Idealize.ShloMosaic.Lib.Tactic

@[expose] public section

set_option maxRecDepth 16384

noncomputable section

/-! The reference program's run: what each buffer holds afterwards, its arguments unchanged, its counters at zero. -/

namespace Cert.ReferenceIdeal.Hand

open Cert.ReferenceIdeal.Gen Cert.ReferenceIdeal.Value
open Idealize.ShloMosaic Idealize.ShloMosaic.TcCoe
open Idealize.ShloMosaic.StableHlo
open Idealize.SL Idealize.SL.Sem

variable {F : FTy → Type} [FloatOps F] (m : (ℓ : Loc nD τ sig) → Buf (Elt F) ℓ) (ρ : Dev nD → PrngReg)

/-- The stretch `ops` leaves the buffer `r` as it is. -/
def Keeps (ops : List (HloOp τ sig (Elt F))) (r : Ref sig .tc) : Prop := ∀ V, after ops V (Proc.devRef .tc r) = V (Proc.devRef .tc r)

theorem afterL_keeps (items : List (List (HloOp τ sig (Elt F)))) (r : Ref sig .tc) (h : ∀ ops ∈ items, Keeps ops r) (V : Valuation τ sig (Elt F)) :
    afterL items V (Proc.devRef .tc r) = V (Proc.devRef .tc r) := by
  induction items generalizing V with
  | nil => rfl
  | cons ops rest ih =>
    rw [afterL_cons, ih (fun o ho => h o (List.mem_cons_of_mem _ ho)), h ops List.mem_cons_self V]

/-- What the stretches after the loop write. -/
abbrev hostOps0_7_W : List (Ref sig .tc) := [main_v68, main_v69, main_v70, main_v71, main_v72]
theorem hostOps0_7_writes : (hostOps0_7 : List (HloOp τ sig (Elt F))).Forall fun op => op.writes ⊆ (hostOps0_7_W.map (Proc.devRef (τ := τ) .tc)).toFinset :=
  StableHlo.forall_writes_sub_of_map rfl
abbrev hostOps0_8_W : List (Ref sig .tc) := [main_call7_v0, main_call7_v1, main_call7_cst, main_call7_v2, main_call7_v3, main_call7_cst_0, main_call7_v4, main_call7_v5, main_v73]
theorem hostOps0_8_writes : (hostOps0_8 : List (HloOp τ sig (Elt F))).Forall fun op => op.writes ⊆ (hostOps0_8_W.map (Proc.devRef (τ := τ) .tc)).toFinset :=
  StableHlo.forall_writes_sub_of_map rfl
abbrev hostOps0_9_W : List (Ref sig .tc) := [main_v74, main_v75]
theorem hostOps0_9_writes : (hostOps0_9 : List (HloOp τ sig (Elt F))).Forall fun op => op.writes ⊆ (hostOps0_9_W.map (Proc.devRef (τ := τ) .tc)).toFinset :=
  StableHlo.forall_writes_sub_of_map rfl

/-- The buffers that the stretches before the loop write, that the loop writes and that the stretches after it write. -/
abbrev preW : List (Ref sig .tc) := hostOps0_W ++ hostOps0_1_W ++ hostOps0_2_W ++ hostOps0_3_W ++ hostOps0_4_W ++ hostOps0_5_W ++ hostOps0_6_W
abbrev loopW : List (Ref sig .tc) := condOps_W ++ while0Ops0_W ++ while0Ops0_1_W ++ while0Ops0_2_W ++ while0Ops0_3_W ++ while0Ops0_4_W ++ while0Ops0_5_W
abbrev postW : List (Ref sig .tc) := hostOps0_7_W ++ hostOps0_8_W ++ hostOps0_9_W

theorem pre_keeps (r : Ref sig .tc) (h : r ∉ preW) : ∀ ops ∈ (preI : List (List (HloOp τ sig (Elt F)))), Keeps ops r := by
  simp only [preW, List.mem_append, not_or] at h
  obtain ⟨⟨⟨⟨⟨⟨h0, h1⟩, h2⟩, h3⟩, h4⟩, h5⟩, h6⟩ := h
  intro ops ho
  simp only [preI, List.mem_cons, List.not_mem_nil, or_false] at ho
  rcases ho with rfl | rfl | rfl | rfl | rfl | rfl | rfl
  · exact fun V => after_of_writes_sub _ V hostOps0_writes h0
  · exact fun V => after_of_writes_sub _ V hostOps0_1_writes h1
  · exact fun V => after_of_writes_sub _ V hostOps0_2_writes h2
  · exact fun V => after_of_writes_sub _ V hostOps0_3_writes h3
  · exact fun V => after_of_writes_sub _ V hostOps0_4_writes h4
  · exact fun V => after_of_writes_sub _ V hostOps0_5_writes h5
  · exact fun V => after_of_writes_sub _ V hostOps0_6_writes h6

theorem body_keeps (r : Ref sig .tc) (h : r ∉ loopW) : ∀ ops ∈ (condOps :: bodyI : List (List (HloOp τ sig (Elt F)))), Keeps ops r := by
  simp only [loopW, List.mem_append, not_or] at h
  obtain ⟨⟨⟨⟨⟨⟨h0, h1⟩, h2⟩, h3⟩, h4⟩, h5⟩, h6⟩ := h
  intro ops ho
  simp only [bodyI, List.mem_cons, List.not_mem_nil, or_false] at ho
  rcases ho with rfl | rfl | rfl | rfl | rfl | rfl | rfl
  · exact fun V => after_of_writes_sub _ V condOps_writes h0
  · exact fun V => after_of_writes_sub _ V while0Ops0_writes h1
  · exact fun V => after_of_writes_sub _ V while0Ops0_1_writes h2
  · exact fun V => after_of_writes_sub _ V while0Ops0_2_writes h3
  · exact fun V => after_of_writes_sub _ V while0Ops0_3_writes h4
  · exact fun V => after_of_writes_sub _ V while0Ops0_4_writes h5
  · exact fun V => after_of_writes_sub _ V while0Ops0_5_writes h6

theorem post_keeps (r : Ref sig .tc) (h : r ∉ postW) : ∀ ops ∈ (postI : List (List (HloOp τ sig (Elt F)))), Keeps ops r := by
  simp only [postW, List.mem_append, not_or] at h
  obtain ⟨⟨h0, h1⟩, h2⟩ := h
  intro ops ho
  simp only [postI, List.mem_cons, List.not_mem_nil, or_false] at ho
  rcases ho with rfl | rfl | rfl
  · exact fun V => after_of_writes_sub _ V hostOps0_7_writes h0
  · exact fun V => after_of_writes_sub _ V hostOps0_8_writes h1
  · exact fun V => after_of_writes_sub _ V hostOps0_9_writes h2

/-- A buffer that the loop does not write holds, before every trip, what it held at the loop's entry. -/
theorem atK_keeps (r : Ref sig .tc) (h : r ∉ loopW) (c : Dev nD) : ∀ k, atK m k c (Proc.devRef .tc r) = entryContents preI m c (Proc.devRef .tc r)
  | 0 => rfl
  | k + 1 => (afterL_keeps (condOps :: bodyI) r (body_keeps r h) (atK m k c)).trans (atK_keeps r h c k)

/-- The buffers when the loop has ended. -/
abbrev VL (c : Dev nD) : Valuation τ sig (Elt F) := after condOps (atK m 2048 c)

/-- A buffer that the loop does not write, after the loop. -/
theorem VL_keeps (r : Ref sig .tc) (h : r ∉ loopW) (c : Dev nD) : VL m c (Proc.devRef .tc r) = entryContents preI m c (Proc.devRef .tc r) :=
  (body_keeps r h condOps List.mem_cons_self _).trans (atK_keeps m r h c 2048)

/-- A buffer that nothing writes ends as it was. -/
theorem final_keeps (r : Ref sig .tc) (h0 : r ∉ preW) (h1 : r ∉ loopW) (h2 : r ∉ postW) (c : Dev nD) :
    finalContents condOps preI bodyI postI 2048 m c (Proc.devRef .tc r) = m ((c.tc : Thread nD τ).loc r) :=
  (afterL_keeps postI r (post_keeps r h2) _).trans ((VL_keeps m r h1 c).trans (afterL_keeps preI r (pre_keeps r h0) _))

/-- Every execution of @main ends, with the result at the fold, the arguments as launched and every counter at zero. -/
theorem run : θ_run (defs (F := F)) (onTc (τ := τ) (main (F := F))) ⟨m, fun _ => 0, ρ⟩ (fun r => (∀ c : Dev nD,
      r.2.mem ((c.tc : Thread nD τ).loc main_v75) = finalContents condOps preI bodyI postI 2048 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨h c main_v75 (by decide), (h c main_arg0 (by decide)).trans (final_keeps m main_arg0 (by decide +kernel) (by decide +kernel) (by decide +kernel) c),
    (h c main_arg1 (by decide)).trans (final_keeps m main_arg1 (by decide +kernel) (by decide +kernel) (by decide +kernel) c),
    (h c main_arg2 (by decide)).trans (final_keeps m main_arg2 (by decide +kernel) (by decide +kernel) (by decide +kernel) c),
    (h c main_arg3 (by decide)).trans (final_keeps m main_arg3 (by decide +kernel) (by decide +kernel) (by decide +kernel) c),
    (h c main_arg4 (by decide)).trans (final_keeps m main_arg4 (by decide +kernel) (by decide +kernel) (by decide +kernel) c),
    (h c main_arg5 (by decide)).trans (final_keeps m main_arg5 (by decide +kernel) (by decide +kernel) (by decide +kernel) c),
    (h c main_arg6 (by decide)).trans (final_keeps m main_arg6 (by decide +kernel) (by decide +kernel) (by decide +kernel) c),
    (h c main_arg7 (by decide)).trans (final_keeps m main_arg7 (by decide +kernel) (by decide +kernel) (by decide +kernel) c),
    (h c main_arg8 (by decide)).trans (final_keeps m main_arg8 (by decide +kernel) (by decide +kernel) (by decide +kernel) c),
    (h c main_arg9 (by decide)).trans (final_keeps m main_arg9 (by decide +kernel) (by decide +kernel) (by decide +kernel) c)⟩, sem_eq_zero_of_no_sems (by decide) r.2⟩) (run_fold m ρ)

/-- The frame: the same without the result. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run m ρ)

end Cert.ReferenceIdeal.Hand

end
-- ==== Proof.V.Spec.lean ====
module

public import Idealize.ShloMosaic.Lib.Pointwise

/-! # The block's mathematics over the extended reals, stage by stage

Curried functions of positions: `t` a time step, `d` a channel, `n` a state, `k` a contracted position. -/

@[expose] public section

noncomputable section

namespace Cert.Mamba

open Idealize.ShloMosaic

/-- A product with a weight matrix. -/
def lin {T K N : ℕ} (x : Fin T → Fin K → EReal) (w : Fin K → Fin N → EReal) (t : Fin T) (d : Fin N) : EReal :=
  ∑ k : Fin K, x t k * w k d

/-- The channels `u` three steps late: row `s` is `u`'s row `s - 3`, and zero before. -/
def late (u : Fin 2048 → Fin 2048 → EReal) (s : ℕ) (d : Fin 2048) : EReal :=
  if h : 3 ≤ s ∧ s - 3 < 2048 then u ⟨s - 3, h.2⟩ d else 0

/-- The causal convolution of width four, with its bias. -/
def conv (cw : Fin 4 → Fin 2048 → EReal) (cb : Fin 2048 → EReal) (u : Fin 2048 → Fin 2048 → EReal) (t : Fin 2048) (d : Fin 2048) : EReal :=
  cw 0 d * late u t.val d + cw 1 d * late u (t.val + 1) d + cw 2 d * late u (t.val + 2) d + cw 3 d * late u (t.val + 3) d + cb d

/-- `v · sigmoid v`. -/
def silu (v : EReal) : EReal := v * Ideal.logistic v

/-- `log (1 + exp v)`, written so that it does not overflow. -/
def softplus (v : EReal) : EReal := max v 0 + Ideal.log1p (Ideal.exp (0 - max v (-v)))

/-- Step `t`, counted past the end by starting over. -/
def row (t : ℕ) : Fin 2048 := ⟨t % 2048, Nat.mod_lt _ (by decide)⟩

/-- The state before step `t`. -/
def state (dt : Fin 2048 → Fin 2048 → EReal) (a : Fin 2048 → Fin 16 → EReal) (b : Fin 2048 → Fin 16 → EReal)
    (xc : Fin 2048 → Fin 2048 → EReal) : ℕ → Fin 2048 → Fin 16 → EReal
  | 0, _, _ => 0
  | t + 1, d, n => Ideal.exp (dt (row t) d * a d n) * state dt a b xc t d n + (dt (row t) d * b (row t) n) * xc (row t) d

/-- The recurrence's result. -/
def ssm (dt : Fin 2048 → Fin 2048 → EReal) (a : Fin 2048 → Fin 16 → EReal) (b c : Fin 2048 → Fin 16 → EReal)
    (xc : Fin 2048 → Fin 2048 → EReal) (t d : Fin 2048) : EReal :=
  ∑ n : Fin 16, state dt a b xc (t.val + 1) d n * c t n

/-- The gated result, projected. -/
def gate (y xc : Fin 2048 → Fin 2048 → EReal) (dp : Fin 2048 → EReal) (z : Fin 2048 → Fin 2048 → EReal) (w : Fin 2048 → Fin 1024 → EReal)
    (t : Fin 2048) (o : Fin 1024) : EReal :=
  ∑ d : Fin 2048, ((y t d + xc t d * dp d) * silu (z t d)) * w d o

end Cert.Mamba
-- ==== Proof.V.Proj.lean ====
module

public import proofs.«01_k».proof.Proof.KI.Proj
public import Idealize.ShloMosaic.Lib.Pointwise
public import Idealize.ShloMosaic.Lib.Pipeline.ValueKit
public import proofs.«01_k».proof.Proof.V.Spec

/-! # The projection call's results, at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

/-- The channels of a block, three rows of the block before it in front (zeros before the first block). -/
theorem proj_pay6 (i : grid0.Coords) (x : Vec Ideal S256x1024 .f32) (w : Vec Ideal S1024x2048 .f32) (h : Vec Ideal S8x1024 .f32)
    (s : Fin 259) (d : Fin 2048) :
    k0_pay6 (F := Ideal) i x w h w (ix2 s d)
      = if h1 : s.val < 3 then
          (if BitVec.ofNat 32 (i 0).val * 4#32 + BitVec.ofNat 32 (i 1).val = 0#32 then 0 else ∑ k : Fin 1024, h (ix2 ⟨5 + s.val, by omega⟩ k) * w (ix2 k d))
        else ∑ k : Fin 1024, x (ix2 ⟨s.val - 3, by omega⟩ k) * w (ix2 k d) := by
  pointwise [k0_pay6, k0_pay4]
  split
  · unfold Scalar.select Scalar.cmpi Scalar.addi Scalar.muli IntOp.cmpi IntOp.addi IntOp.muli
    by_cases h0 : BitVec.ofNat 32 (i 0).val * 4#32 + BitVec.ofNat 32 (i 1).val = 0#32
    · rw [if_pos h0, if_pos]
      rw [h0]; rfl
    · rw [if_neg h0, if_neg]
      intro h
      have h' : BitVec.ofBool (BitVec.ofNat 32 (i 0).val * 4#32 + BitVec.ofNat 32 (i 1).val == 0#32) = 1 := h
      rw [beq_eq_false_iff_ne.2 h0] at h'
      exact absurd h' (by decide)
  · rfl

/-- A row of the convolution's weights. -/
theorem ld_row (x : Vec Ideal S4x2048 .f32) (d : Fin 2048) :
    View.ld x r0_4 (ix2 0 d) = x (ix2 0 d) ∧ View.ld x r0_5 (ix2 0 d) = x (ix2 1 d) ∧ View.ld x r0_6 (ix2 0 d) = x (ix2 2 d) ∧ View.ld x r0_7 (ix2 0 d) = x (ix2 3 d) := by
  refine ⟨?_, ?_, ?_, ?_⟩ <;> pointwise
/-- The block's activated channels, from the rows `k0_pay6` the convolution reads. -/
theorem proj_pay1 (i : grid0.Coords) (x : Vec Ideal S256x1024 .f32) (w : Vec Ideal S1024x2048 .f32) (h : Vec Ideal S8x1024 .f32)
    (w0 w1 w2 w3 b : Vec Ideal S1x2048 .f32) (s : Fin 256) (d : Fin 2048) :
    k0_pay1 (F := Ideal) (k0_pay6 i x w h w) (k0_pay7 i x w h w w0 w1) w2 w3 b (ix2 s d)
      = silu (w0 (ix2 0 d) * k0_pay6 i x w h w (ix2 ⟨s.val, by omega⟩ d) + w1 (ix2 0 d) * k0_pay6 i x w h w (ix2 ⟨1 + s.val, by omega⟩ d)
        + w2 (ix2 0 d) * k0_pay6 i x w h w (ix2 ⟨2 + s.val, by omega⟩ d) + w3 (ix2 0 d) * k0_pay6 i x w h w (ix2 ⟨3 + s.val, by omega⟩ d) + b (ix2 0 d)) := by
  unfold silu
  pointwise [k0_pay1, k0_pay7]
theorem proj_pay2 (u : FVec Ideal S259x2048 .f32) (v : FVec Ideal S256x2048 .f32) (w2 w3 b : Vec Ideal S1x2048 .f32) (wx : Vec Ideal S2048x128 .f32)
    (s : Fin 256) (r : Fin 128) :
    k0_pay2 (F := Ideal) u v w2 w3 b wx (ix2 s r) = ∑ k : Fin 2048, k0_pay1 u v w2 w3 b (ix2 s k) * wx (ix2 k r) := by
  pointwise [k0_pay2]
theorem proj_pay3 (u : FVec Ideal S259x2048 .f32) (v : FVec Ideal S256x2048 .f32) (w2 w3 b : Vec Ideal S1x2048 .f32) (wx : Vec Ideal S2048x128 .f32)
   (wd : Vec Ideal S64x2048 .f32) (bd : Vec Ideal S1x2048 .f32) (s : Fin 256) (d : Fin 2048) :
    k0_pay3 (F := Ideal) u v w2 w3 b wx wd bd (ix2 s d)
      = ∑ k : Fin 64, k0_pay2 u v w2 w3 b wx (ix2 s ⟨k.val, by omega⟩) * wd (ix2 k d) + bd (ix2 0 d) := by
  pointwise [k0_pay3]
theorem proj_pay5 (x : Vec Ideal S256x1024 .f32) (w : Vec Ideal S1024x2048 .f32) (s : Fin 256) (d : Fin 2048) :
    k0_pay5 (F := Ideal) x w (ix2 s d) = ∑ k : Fin 1024, x (ix2 s k) * w (ix2 k d) := by
  pointwise [k0_pay5, k0_pay4]

variable (V : (c : Dev nD) → (b : Ref sig .tc) → Buf (Elt Ideal) ((c : Thread nD τ).loc b))

theorem idx0_0 : ∀ t : Fin cfg0.N, win0_0.index t = ![t.val, 0] := (by decide +kernel : ∀ t : Fin grid0.N, _)
theorem idx0_1 : ∀ t : Fin cfg0.N, win0_1.index t = ![32 * t.val - 1, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![t.val, 0] := (by decide +kernel : ∀ t : Fin grid0.N, _)
theorem idx0_10 : ∀ t : Fin cfg0.N, win0_10.index t = ![t.val, 0] := (by decide +kernel : ∀ t : Fin grid0.N, _)
theorem idx0_11 : ∀ t : Fin cfg0.N, win0_11.index t = ![t.val, 0] := (by decide +kernel : ∀ t : Fin grid0.N, _)
theorem idx0_12 : ∀ t : Fin cfg0.N, win0_12.index t = ![t.val, 0] := (by decide +kernel : ∀ t : Fin grid0.N, _)
/-- Only the first point is the first block. -/
theorem first0 : ∀ t : Fin cfg0.N, BitVec.ofNat 32 (grid0.coords t 0).val * 4#32 + BitVec.ofNat 32 (grid0.coords t 1).val = 0#32 ↔ t.val = 0 :=
  (by decide +kernel : ∀ t : Fin grid0.N, BitVec.ofNat 32 (grid0.coords t 0).val * 4#32 + BitVec.ofNat 32 (grid0.coords t 1).val = 0#32 ↔ t.val = 0)

theorem blk0_0 (c : Dev nD) (t : Fin cfg0.N) (r : Fin 256) (k : Fin 1024) (q : Fin 2048) (h : q.val = 256 * t.val + r.val) :
    iblk0 V c 0 t (ix2 r k) = V c main_v0 (ix2 q k) := by
  blk_simp [iblk0, idx0_0]
  congr 1
  blk_ext [idx0_0]
theorem blk0_1 (c : Dev nD) (t : Fin cfg0.N) (r : Fin 8) (k : Fin 1024) (q : Fin 2048) (h : q.val = 8 * (32 * t.val - 1) + r.val) :
    iblk0 V c 1 t (ix2 r k) = V c main_v0 (ix2 q k) := by
  blk_simp [iblk0, idx0_1]
  congr 1
  blk_ext [idx0_1]
theorem blk0_2 (c : Dev nD) (t : Fin cfg0.N) (r : Fin 1024) (k : Fin 2048) :
    iblk0 V c 2 t (ix2 r k) = V c main_v1 (ix2 r k) := by
  blk_simp [iblk0, idx0_2]
  congr 1
  blk_ext [idx0_2]
theorem blk0_3 (c : Dev nD) (t : Fin cfg0.N) (r : Fin 1024) (k : Fin 2048) :
    iblk0 V c 3 t (ix2 r k) = V c main_v2 (ix2 r k) := by
  blk_simp [iblk0, idx0_3]
  congr 1
  blk_ext [idx0_3]
theorem blk0_4 (c : Dev nD) (t : Fin cfg0.N) (r : Fin 4) (k : Fin 2048) :
    iblk0 V c 4 t (ix2 r k) = V c main_v4 (ix2 r k) := by
  blk_simp [iblk0, idx0_4]
  congr 1
  blk_ext [idx0_4]
theorem blk0_5 (c : Dev nD) (t : Fin cfg0.N) (r : Fin 1) (k : Fin 2048) :
    iblk0 V c 5 t (ix2 r k) = V c main_v5 (ix2 r k) := by
  blk_simp [iblk0, idx0_5]
  congr 1
  blk_ext [idx0_5]
theorem blk0_6 (c : Dev nD) (t : Fin cfg0.N) (r : Fin 2048) (k : Fin 128) :
    iblk0 V c 6 t (ix2 r k) = V c main_v6 (ix2 r k) := by
  blk_simp [iblk0, idx0_6]
  congr 1
  blk_ext [idx0_6]
theorem blk0_7 (c : Dev nD) (t : Fin cfg0.N) (r : Fin 64) (k : Fin 2048) :
    iblk0 V c 7 t (ix2 r k) = V c main_arg5 (ix2 r k) := by
  blk_simp [iblk0, idx0_7]
  congr 1
  blk_ext [idx0_7]
theorem blk0_8 (c : Dev nD) (t : Fin cfg0.N) (r : Fin 1) (k : Fin 2048) :
    iblk0 V c 8 t (ix2 r k) = V c main_v7 (ix2 r k) := by
  blk_simp [iblk0, idx0_8]
  congr 1
  blk_ext [idx0_8]

/-! ## The arrays as curried functions -/

def xA (c : Dev nD) : Fin 2048 → Fin 1024 → EReal := fun t k => V c main_v0 (ix2 t k)
def w1A (c : Dev nD) : Fin 1024 → Fin 2048 → EReal := fun k d => V c main_v1 (ix2 k d)
def w2A (c : Dev nD) : Fin 1024 → Fin 2048 → EReal := fun k d => V c main_v2 (ix2 k d)
def cwA (c : Dev nD) : Fin 4 → Fin 2048 → EReal := fun k d => V c main_v4 (ix2 k d)
def cbA (c : Dev nD) : Fin 2048 → EReal := fun d => V c main_v5 (ix2 0 d)
def wxA (c : Dev nD) : Fin 2048 → Fin 128 → EReal := fun d r => V c main_v6 (ix2 d r)
def wdA (c : Dev nD) : Fin 64 → Fin 2048 → EReal := fun r d => V c main_arg5 (ix2 r d)
def bdA (c : Dev nD) : Fin 2048 → EReal := fun d => V c main_v7 (ix2 0 d)
/-- The activated channels. -/
def xcA (c : Dev nD) : Fin 2048 → Fin 2048 → EReal := fun t d => silu (conv (cwA V c) (cbA V c) (lin (xA V c) (w1A V c)) t d)
/-- Step sizes, inputs' and outputs' weights, before they are cut apart. -/
def xdA (c : Dev nD) : Fin 2048 → Fin 128 → EReal := lin (xcA V c) (wxA V c)
/-- The step sizes' arguments. -/
def dtA (c : Dev nD) : Fin 2048 → Fin 2048 → EReal := fun t d => lin (fun t (r : Fin 64) => xdA V c t ⟨r.val, by omega⟩) (wdA V c) t d + bdA V c d

/-- The rows the convolution reads at point `t`. -/
theorem rows0 (c : Dev nD) (t : Fin cfg0.N) (s : Fin 259) (d : Fin 2048) (n : ℕ) (hn : n = 256 * t.val + s.val) :
    k0_pay6 (grid0.coords t) (iblk0 V c 0 t) (iblk0 V c 2 t) (iblk0 V c 1 t) (iblk0 V c 2 t) (ix2 s d)
      = late (lin (xA V c) (w1A V c)) n d := by
  have ht : t.val < 8 := t.isLt
  subst hn
  refine Eq.trans (α := EReal) (proj_pay6 _ _ _ _ s d) ?_
  unfold late
  by_cases h1 : s.val < 3
  · rw [dif_pos h1]
    by_cases h2 : t.val = 0
    · rw [if_pos ((first0 t).2 h2), dif_neg (by omega)]
    · rw [if_neg (fun h => h2 ((first0 t).1 h)), dif_pos ⟨by omega, by omega⟩]
      unfold lin xA w1A
      refine Finset.sum_congr (M := EReal) rfl fun k _ => ?_
      rw [blk0_1 V c t _ k ⟨256 * t.val + s.val - 3, by omega⟩ (by show 256 * t.val + s.val - 3 = 8 * (32 * t.val - 1) + (5 + s.val); omega), blk0_2]
  · rw [dif_neg h1, dif_pos ⟨by omega, by omega⟩]
    unfold lin xA w1A
    refine Finset.sum_congr (M := EReal) rfl fun k _ => ?_
    rw [blk0_0 V c t _ k ⟨256 * t.val + s.val - 3, by omega⟩ (by show 256 * t.val + s.val - 3 = 256 * t.val + (s.val - 3); omega), blk0_2]

/-- The rows, as the body binds them. -/
abbrev rowsB (c : Dev nD) (t : Fin cfg0.N) : FVec Ideal S259x2048 .f32 := k0_pay8 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
/-- The first two taps, as the body binds them. -/
abbrev tapsB (c : Dev nD) (t : Fin cfg0.N) : FVec Ideal S256x2048 .f32 := k0_pay9 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t)
theorem rowsB_eq (c : Dev nD) (t : Fin cfg0.N) :
    rowsB V c t = k0_pay6 (grid0.coords t) (iblk0 V c 0 t) (iblk0 V c 2 t) (iblk0 V c 1 t) (iblk0 V c 2 t) := by
  unfold rowsB k0_pay8; frame_out
theorem tapsB_eq (c : Dev nD) (t : Fin cfg0.N) :
    tapsB V c t = k0_pay7 (grid0.coords t) (iblk0 V c 0 t) (iblk0 V c 2 t) (iblk0 V c 1 t) (iblk0 V c 2 t) (View.ld (iblk0 V c 4 t) r0_4) (View.ld (iblk0 V c 4 t) r0_5) := by
  unfold tapsB k0_pay9; frame_out; rfl

/-- The activated channels of point `t`'s block. -/
theorem xcB_at (c : Dev nD) (t : Fin cfg0.N) (s : Fin 256) (d : Fin 2048) (q : Fin 2048) (h : q.val = 256 * t.val + s.val) :
    k0_pay1 (rowsB V c t) (tapsB V c t) (View.ld (iblk0 V c 4 t) r0_6) (View.ld (iblk0 V c 4 t) r0_7) (iblk0 V c 5 t) (ix2 s d) = xcA V c q d := by
  rw [rowsB_eq, tapsB_eq]
  refine Eq.trans (α := EReal) (proj_pay1 _ _ _ _ _ _ _ _ _ s d) ?_
  rw [rows0 V c t ⟨s.val, by omega⟩ d q.val h, rows0 V c t ⟨1 + s.val, by omega⟩ d (q.val + 1) (by show q.val + 1 = 256 * t.val + (1 + s.val); omega),
    rows0 V c t ⟨2 + s.val, by omega⟩ d (q.val + 2) (by show q.val + 2 = 256 * t.val + (2 + s.val); omega),
    rows0 V c t ⟨3 + s.val, by omega⟩ d (q.val + 3) (by show q.val + 3 = 256 * t.val + (3 + s.val); omega)]
  rw [(ld_row _ d).1, (ld_row _ d).2.1, (ld_row _ d).2.2.1, (ld_row _ d).2.2.2]
  simp only [blk0_4, blk0_5]
  rfl
/-- The projected channels of point `t`'s block. -/
theorem xdB_at (c : Dev nD) (t : Fin cfg0.N) (s : Fin 256) (r : Fin 128) (q : Fin 2048) (h : q.val = 256 * t.val + s.val) :
    k0_pay2 (rowsB V c t) (tapsB V c t) (View.ld (iblk0 V c 4 t) r0_6) (View.ld (iblk0 V c 4 t) r0_7) (iblk0 V c 5 t) (iblk0 V c 6 t) (ix2 s r) = xdA V c q r := by
  refine Eq.trans (α := EReal) (proj_pay2 _ _ _ _ _ _ s r) ?_
  unfold xdA lin wxA
  refine Finset.sum_congr (M := EReal) rfl fun k _ => ?_
  rw [blk0_6]
  exact congrArg (· * _) (xcB_at V c t s k q h)
/-- The step sizes' arguments in point `t`'s block. -/
theorem dtB_at (c : Dev nD) (t : Fin cfg0.N) (s : Fin 256) (d : Fin 2048) (q : Fin 2048) (h : q.val = 256 * t.val + s.val) :
    k0_pay3 (rowsB V c t) (tapsB V c t) (View.ld (iblk0 V c 4 t) r0_6) (View.ld (iblk0 V c 4 t) r0_7) (iblk0 V c 5 t) (iblk0 V c 6 t) (iblk0 V c 7 t) (iblk0 V c 8 t) (ix2 s d)
      = dtA V c q d := by
  refine Eq.trans (α := EReal) (proj_pay3 _ _ _ _ _ _ _ _ s d) ?_
  unfold dtA lin wdA bdA
  rw [blk0_8]
  refine congrArg (· + _) (Finset.sum_congr (M := EReal) rfl fun k _ => ?_)
  rw [blk0_7]
  exact congrArg (· * _) (xdB_at V c t s ⟨k.val, by omega⟩ q h)
/-- The gate's channels in point `t`'s block. -/
theorem zB_at (c : Dev nD) (t : Fin cfg0.N) (s : Fin 256) (d : Fin 2048) (q : Fin 2048) (h : q.val = 256 * t.val + s.val) :
    k0_pay5 (iblk0 V c 0 t) (iblk0 V c 3 t) (ix2 s d) = lin (xA V c) (w2A V c) q d := by
  refine Eq.trans (α := EReal) (proj_pay5 _ _ s d) ?_
  unfold lin xA w2A
  refine Finset.sum_congr (M := EReal) rfl fun k _ => ?_
  rw [blk0_0 V c t s k q h, blk0_3]

/-! ## The four arrays the call leaves -/

theorem proj_arr9 (c : Dev nD) : (dat0 V c).arrAt 9 cfg0.N = (fun j => xcA V c (j 0) (j 1) : S2048x2048.Idx → EReal) := by
  refine (dat0 V c).arrAt_eq_of_covers 9 _ (by decide +kernel) fun t hf y => ?_
  blk_simp
  rw [after0_9]; unfold out0_9
  frame_out
  obtain ⟨r, d, rfl⟩ : ∃ (r : Fin 256) (d : Fin 2048), y = ix2 r d := ⟨y 0, y 1, eq_ix2 _⟩
  have ht : t.val < 8 := t.isLt
  have h : 256 * t.val + r.val < 2048 := by omega
  have e : ((View.whole main_v11_0).slice (win0_9.rect t)).emb (ix2 r d) = ix2 ⟨256 * t.val + r.val, h⟩ d := by
    blk_ext [idx0_9]
  rw [e]
  exact xcB_at V c t r d ⟨256 * t.val + r.val, h⟩ rfl

theorem proj_arr10 (c : Dev nD) : (dat0 V c).arrAt 10 cfg0.N = (fun j => dtA V c (j 0) (j 1) : S2048x2048.Idx → EReal) := by
  refine (dat0 V c).arrAt_eq_of_covers 10 _ (by decide +kernel) fun t hf y => ?_
  blk_simp
  rw [after0_10]; unfold out0_10
  frame_out
  obtain ⟨r, d, rfl⟩ : ∃ (r : Fin 256) (d : Fin 2048), y = ix2 r d := ⟨y 0, y 1, eq_ix2 _⟩
  have ht : t.val < 8 := t.isLt
  have h : 256 * t.val + r.val < 2048 := by omega
  have e : ((View.whole main_v11_1).slice (win0_10.rect t)).emb (ix2 r d) = ix2 ⟨256 * t.val + r.val, h⟩ d := by
    blk_ext [idx0_10]
  rw [e]
  exact dtB_at V c t r d ⟨256 * t.val + r.val, h⟩ rfl

theorem proj_arr11 (c : Dev nD) : (dat0 V c).arrAt 11 cfg0.N = (fun j => lin (xA V c) (w2A V c) (j 0) (j 1) : S2048x2048.Idx → EReal) := by
  refine (dat0 V c).arrAt_eq_of_covers 11 _ (by decide +kernel) fun t hf y => ?_
  blk_simp
  rw [after0_11]; unfold out0_11
  frame_out
  obtain ⟨r, d, rfl⟩ : ∃ (r : Fin 256) (d : Fin 2048), y = ix2 r d := ⟨y 0, y 1, eq_ix2 _⟩
  have ht : t.val < 8 := t.isLt
  have h : 256 * t.val + r.val < 2048 := by omega
  have e : ((View.whole main_v11_2).slice (win0_11.rect t)).emb (ix2 r d) = ix2 ⟨256 * t.val + r.val, h⟩ d := by
    blk_ext [idx0_11]
  rw [e]
  exact zB_at V c t r d ⟨256 * t.val + r.val, h⟩ rfl

theorem proj_arr12 (c : Dev nD) : (dat0 V c).arrAt 12 cfg0.N = (fun j => xdA V c (j 0) (j 1) : S2048x128.Idx → EReal) := by
  refine (dat0 V c).arrAt_eq_of_covers 12 _ (by decide +kernel) fun t hf y => ?_
  blk_simp
  rw [after0_12]; unfold out0_12
  frame_out
  obtain ⟨r, d, rfl⟩ : ∃ (r : Fin 256) (d : Fin 128), y = ix2 r d := ⟨y 0, y 1, eq_ix2 _⟩
  have ht : t.val < 8 := t.isLt
  have h : 256 * t.val + r.val < 2048 := by omega
  have e : ((View.whole main_v11_3).slice (win0_12.rect t)).emb (ix2 r d) = ix2 ⟨256 * t.val + r.val, h⟩ d := by
    blk_ext [idx0_12]
  rw [e]
  exact xdB_at V c t r d ⟨256 * t.val + r.val, h⟩ rfl

end Cert.KernelIdeal.Value
-- ==== Proof.V.ScanPay.lean ====
module

public import proofs.«01_k».proof.Proof.KI.ScanB
public import Idealize.ShloMosaic.Lib.Pointwise
public import Idealize.ShloMosaic.Lib.Pipeline.ValueKit
public import proofs.«01_k».proof.Proof.V.Spec

/-! # The scan's payloads, at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

theorem scan_step (a2 h : FVec Ideal S16x1024 .f32) (d e : Vec Ideal S1x1x1024 .f32) (b : Vec Ideal S1x16x1 .f32) (n : Fin 16) (l : Fin 1024) :
    kstep (F := Ideal) a2 h d e b (ix2 n l)
      = Ideal.exp2 (d (ix3 0 0 l) * a2 (ix2 n l)) * h (ix2 n l) + e (ix3 0 0 l) * b (ix3 0 n 0) := by
  unfold kstep
  pointwise [k1_pay4]
  rfl
theorem scan_row (h : FVec Ideal S16x1024 .f32) (c : Vec Ideal S1x16x1 .f32) (s : Fin 8) (l : Fin 1024) :
    krow (F := Ideal) h c (ix3 0 s l)
      = h (ix2 ⟨s.val, by omega⟩ l) * c (ix3 0 ⟨s.val, by omega⟩ 0) + h (ix2 ⟨8 + s.val, by omega⟩ l) * c (ix3 0 ⟨8 + s.val, by omega⟩ 0) := by
  unfold krow
  pointwise [k1_pay11]
theorem scan_zero (j : S16x1024.Idx) : k1_pay21 (F := Ideal) j = 0 := by
  pointwise [k1_pay21]
theorem scan_dt (x : Vec Ideal S128x1024 .f32) (r : Fin 128) (l : Fin 1024) :
    k1_pay23 (F := Ideal) x (ix3 r 0 l) = softplus (x (ix2 r l)) := by
  pointwise [k1_pay23, k1_pay22]
  rfl
theorem scan_dx (x y : Vec Ideal S128x1024 .f32) (r : Fin 128) (l : Fin 1024) :
    k1_pay24 (F := Ideal) x y (ix3 r 0 l) = softplus (x (ix2 r l)) * y (ix2 r l) := by
  pointwise [k1_pay24, k1_pay22]
  rfl
theorem scan_a (x : Vec Ideal S16x1024 .f32) (n : Fin 16) (l : Fin 1024) :
    k1_pay25 (F := Ideal) x (ix2 n l) = x (ix2 n l) * (((Real.log 2)⁻¹ : ℝ) : EReal) := by
  pointwise [k1_pay25]
  exact congrArg (x (ix2 n l) * ·) (IdealRules.named_const.ideal_named_scalar _ _ _ _ rfl)
theorem scan_y (yp : Vec Ideal S128x8x1024 .f32) (sel : Vec Ideal S128x1024 .f32) (r : Fin 128) (l : Fin 1024) :
    k1_pay1 (F := Ideal) yp sel (ix3 r 0 l) = ∑ k : Fin 1024, sel (ix2 r k) * yp (ix3 ⟨k.val / 8, by omega⟩ ⟨k.val % 8, by omega⟩ l) := by
  pointwise [k1_pay1]

/-- `2` raised to `d (a / log 2)` is `e` raised to `d a`, at the infinities too. -/
theorem exp2_scaled (d a : EReal) : Ideal.exp2 (d * (a * (((Real.log 2)⁻¹ : ℝ) : EReal))) = Ideal.exp (d * a) := by
  rw [← mul_assoc]
  generalize d * a = u
  have hl : 0 < Real.log 2 := Real.log_pos (by norm_num)
  have hi : 0 < (Real.log 2)⁻¹ := inv_pos.2 hl
  induction u with
  | bot => rw [EReal.bot_mul_coe_of_pos hi]; simp
  | top => rw [EReal.top_mul_coe_of_pos hi]; simp
  | coe r =>
    rw [← EReal.coe_mul]
    simp only [Ideal.exp2_coe, Ideal.exp_coe]
    refine congrArg _ ((Real.rpow_def_of_pos (by norm_num) _).trans (congrArg Real.exp ?_))
    field_simp

end Cert.KernelIdeal.Value
-- ==== Proof.V.Scan.lean ====
module

public import proofs.«01_k».proof.Proof.KI.Scan
public import proofs.«01_k».proof.Proof.V.ScanPay

/-! # The scan call's result, at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

/-! ## Sums -/

/-- A sum over 1024 positions with ones at one group of eight. -/
theorem sum_group (r : Fin 128) (f : Fin 1024 → EReal) :
    ∑ k : Fin 1024, (if k.val / 8 = r.val then (1 : EReal) else 0) * f k = ∑ s : Fin 8, f ⟨8 * r.val + s.val, by omega⟩ := by
  simp only [ite_mul, one_mul, zero_mul]
  rw [← Finset.sum_filter]
  refine (Finset.sum_bij' (fun (s : Fin 8) _ => (⟨8 * r.val + s.val, by omega⟩ : Fin 1024)) (fun (k : Fin 1024) _ => (⟨k.val % 8, by omega⟩ : Fin 8)) ?_ ?_ ?_ ?_ ?_).symm
  · intro s _; simp; omega
  · intro k _; simp
  · intro s _; apply Fin.ext; show (8 * r.val + s.val) % 8 = s.val; omega
  · intro k hk; apply Fin.ext; have := (Finset.mem_filter.1 hk).2; show 8 * r.val + k.val % 8 = k.val; omega
  · intro s _; rfl

/-- A sum over sixteen, folded to eight. -/
theorem sum_fold (f : Fin 16 → EReal) :
    ∑ s : Fin 8, (f ⟨s.val, by omega⟩ + f ⟨8 + s.val, by omega⟩) = ∑ n : Fin 16, f n := by
  rw [Finset.sum_add_distrib]
  exact (Fin.sum_univ_add (M := EReal) (a := 8) (b := 8) f).symm

/-! ## One block of 128 steps -/

section
variable (dt : Fin 2048 → Fin 2048 → EReal) (a b cc : Fin 2048 → Fin 16 → EReal) (xc : Fin 2048 → Fin 2048 → EReal)
variable (T : ℕ) (col : Fin 1024 → Fin 2048)
variable (A2 : FVec Ideal S16x1024 .f32) (D E : Vec Ideal S128x1x1024 .f32) (B C : Vec Ideal S128x16x1 .f32) (h0 : FVec Ideal S16x1024 .f32)

theorem HS_state (hA : ∀ n l, A2 (ix2 n l) = a (col l) n * (((Real.log 2)⁻¹ : ℝ) : EReal))
    (hD : ∀ (r : Fin 128) l, D (ix3 r 0 l) = dt (row (128 * T + r.val)) (col l))
    (hE : ∀ (r : Fin 128) l, E (ix3 r 0 l) = dt (row (128 * T + r.val)) (col l) * xc (row (128 * T + r.val)) (col l))
    (hB : ∀ (r : Fin 128) n, B (ix3 r n 0) = b (row (128 * T + r.val)) n)
    (h0' : ∀ n l, h0 (ix2 n l) = state dt a b xc (128 * T) (col l) n) :
    ∀ k, k ≤ 128 → ∀ n l, HS A2 D E B h0 k (ix2 n l) = state dt a b xc (128 * T + k) (col l) n
  | 0, _, n, l => h0' n l
  | k + 1, hk, n, l => by
    have ih := HS_state hA hD hE hB h0' k (by omega) n l
    have hk' : k % 128 = k := Nat.mod_eq_of_lt (by omega)
    refine Eq.trans (α := EReal) (scan_step _ _ _ _ _ n l) ?_
    have e1 : rowL D k (ix3 0 0 l) = dt (row (128 * T + k)) (col l) :=
      (hD ⟨k % 128, Nat.mod_lt _ (by decide)⟩ l).trans (by show dt (row (128 * T + k % 128)) _ = _; rw [hk'])
    have e2 : rowL E k (ix3 0 0 l) = dt (row (128 * T + k)) (col l) * xc (row (128 * T + k)) (col l) :=
      (hE ⟨k % 128, Nat.mod_lt _ (by decide)⟩ l).trans (by show dt (row (128 * T + k % 128)) _ * xc (row (128 * T + k % 128)) _ = _; rw [hk'])
    have e3 : rowB B k (ix3 0 n 0) = b (row (128 * T + k)) n :=
      (hB ⟨k % 128, Nat.mod_lt _ (by decide)⟩ n).trans (by show b (row (128 * T + k % 128)) _ = _; rw [hk'])
    rw [e1, e2, e3, hA, exp2_scaled, ih, mul_right_comm]
    rfl

theorem YP_state (hH : ∀ k, k ≤ 128 → ∀ n l, HS A2 D E B h0 k (ix2 n l) = state dt a b xc (128 * T + k) (col l) n)
    (hC : ∀ (r : Fin 128) n, C (ix3 r n 0) = cc (row (128 * T + r.val)) n)
    (sel : Vec Ideal S128x1024 .f32) (hs : ∀ r k, sel (ix2 r k) = if k.val / 8 = r.val then (1 : EReal) else 0)
    (r : Fin 128) (l : Fin 1024) :
    k1_pay1 (YP A2 D E B C h0) sel (ix3 r 0 l)
      = ∑ n : Fin 16, state dt a b xc (128 * T + r.val + 1) (col l) n * cc (row (128 * T + r.val)) n := by
  refine Eq.trans (α := EReal) (scan_y _ _ r l) ?_
  simp only [hs]
  refine (sum_group r _).trans ?_
  refine Eq.trans (Finset.sum_congr rfl fun s _ => ?_) (sum_fold fun n => state dt a b xc (128 * T + r.val + 1) (col l) n * cc (row (128 * T + r.val)) n)
  have e1 : (8 * r.val + s.val) / 8 = r.val := by omega
  have e2 : (8 * r.val + s.val) % 8 = s.val := by omega
  have er : r.val % 128 = r.val := Nat.mod_eq_of_lt r.isLt
  have hc : ∀ n, rowB C r.val (ix3 0 n 0) = cc (row (128 * T + r.val)) n := fun n =>
    (hC ⟨r.val % 128, Nat.mod_lt _ (by decide)⟩ n).trans (by show cc (row (128 * T + r.val % 128)) _ = _; rw [er])
  show krow (HS A2 D E B h0 ((8 * r.val + s.val) / 8 + 1)) (rowB C ((8 * r.val + s.val) / 8)) (ix3 0 ⟨(8 * r.val + s.val) % 8, _⟩ l) = _
  simp only [e1, e2]
  refine Eq.trans (α := EReal) (scan_row _ _ s l) ?_
  rw [hc, hc, hH (r.val + 1) (by omega), hH (r.val + 1) (by omega)]
  rfl
end

/-! ## The blocks -/

variable (V : (c : Dev nD) → (b : Ref sig .tc) → Buf (Elt Ideal) ((c : Thread nD τ).loc b))

theorem idx1_0 : ∀ t : Fin cfg1.N, win1_0.index t = ![t.val % 16, t.val / 16] := (by decide +kernel : ∀ t : Fin grid1.N, _)
theorem idx1_1 : ∀ t : Fin cfg1.N, win1_1.index t = ![t.val % 16, t.val / 16] := (by decide +kernel : ∀ t : Fin grid1.N, _)
theorem idx1_2 : ∀ t : Fin cfg1.N, win1_2.index t = ![t.val % 16, 0, 0] := (by decide +kernel : ∀ t : Fin grid1.N, _)
theorem idx1_3 : ∀ t : Fin cfg1.N, win1_3.index t = ![t.val % 16, 0, 0] := (by decide +kernel : ∀ t : Fin grid1.N, _)
theorem idx1_4 : ∀ t : Fin cfg1.N, win1_4.index t = ![0, t.val / 16] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![t.val % 16, 0, t.val / 16] := (by decide +kernel : ∀ t : Fin grid1.N, _)

/-- Column `l` of the half `j`. -/
def colOf (j : ℕ) (l : Fin 1024) : Fin 2048 := ⟨(1024 * j + l.val) % 2048, Nat.mod_lt _ (by decide)⟩

theorem blk1_0 (c : Dev nD) (t : Fin cfg1.N) (r : Fin 128) (l : Fin 1024) :
    iblk1 V c 0 t (ix2 r l) = V c main_v11_1 (ix2 (row (128 * (t.val % 16) + r.val)) (colOf (t.val / 16) l)) := by
  have ht : t.val < 32 := t.isLt
  blk_simp [iblk1, idx1_0]
  congr 1
  unfold row colOf
  blk_ext [idx1_0]
theorem blk1_1 (c : Dev nD) (t : Fin cfg1.N) (r : Fin 128) (l : Fin 1024) :
    iblk1 V c 1 t (ix2 r l) = V c main_v11_0 (ix2 (row (128 * (t.val % 16) + r.val)) (colOf (t.val / 16) l)) := by
  have ht : t.val < 32 := t.isLt
  blk_simp [iblk1, idx1_1]
  congr 1
  unfold row colOf
  blk_ext [idx1_1]
theorem blk1_2 (c : Dev nD) (t : Fin cfg1.N) (r : Fin 128) (n : Fin 16) :
    iblk1 V c 2 t (ix3 r n 0) = V c main_v13 (ix3 (row (128 * (t.val % 16) + r.val)) n 0) := by
  have ht : t.val < 32 := t.isLt
  blk_simp [iblk1, idx1_2]
  congr 1
  unfold row
  blk_ext [idx1_2]
theorem blk1_3 (c : Dev nD) (t : Fin cfg1.N) (r : Fin 128) (n : Fin 16) :
    iblk1 V c 3 t (ix3 r n 0) = V c main_v15 (ix3 (row (128 * (t.val % 16) + r.val)) n 0) := by
  have ht : t.val < 32 := t.isLt
  blk_simp [iblk1, idx1_3]
  congr 1
  unfold row
  blk_ext [idx1_3]
theorem blk1_4 (c : Dev nD) (t : Fin cfg1.N) (n : Fin 16) (l : Fin 1024) :
    iblk1 V c 4 t (ix2 n l) = V c main_v10 (ix2 n (colOf (t.val / 16) l)) := by
  have ht : t.val < 32 := t.isLt
  blk_simp [iblk1, idx1_4]
  congr 1
  unfold colOf
  blk_ext [idx1_4]
theorem blk1_5 (c : Dev nD) (t : Fin cfg1.N) (r : Fin 128) (k : Fin 1024) :
    iblk1 V c 5 t (ix2 r k) = V c main_cst (ix2 r k) := by
  blk_simp [iblk1, idx1_5]
  congr 1
  blk_ext [idx1_5]

/-! ## The arrays as curried functions -/

/-- The step sizes. -/
def dtS (c : Dev nD) : Fin 2048 → Fin 2048 → EReal := fun t d => softplus (V c main_v11_1 (ix2 t d))
def xcS (c : Dev nD) : Fin 2048 → Fin 2048 → EReal := fun t d => V c main_v11_0 (ix2 t d)
def aS (c : Dev nD) : Fin 2048 → Fin 16 → EReal := fun d n => V c main_v10 (ix2 n d)
def bS (c : Dev nD) : Fin 2048 → Fin 16 → EReal := fun t n => V c main_v13 (ix3 t n 0)
def cS (c : Dev nD) : Fin 2048 → Fin 16 → EReal := fun t n => V c main_v15 (ix3 t n 0)
/-- The state before step `t`. -/
abbrev stS (c : Dev nD) : ℕ → Fin 2048 → Fin 16 → EReal := state (dtS V c) (aS V c) (bS V c) (xcS V c)

theorem steps1 (c : Dev nD) (t : Fin cfg1.N) (h0 : FVec Ideal S16x1024 .f32)
    (h : ∀ n l, h0 (ix2 n l) = stS V c (128 * (t.val % 16)) (colOf (t.val / 16) l) n) :
    ∀ k, k ≤ 128 → ∀ n l, HS (k1_pay25 (iblk1 V c 4 t)) (k1_pay23 (iblk1 V c 0 t)) (k1_pay24 (iblk1 V c 0 t) (iblk1 V c 1 t)) (iblk1 V c 2 t) h0 k (ix2 n l)
      = stS V c (128 * (t.val % 16) + k) (colOf (t.val / 16) l) n := by
  refine HS_state (dtS V c) (aS V c) (bS V c) (xcS V c) (t.val % 16) (colOf (t.val / 16)) _ _ _ _ h0 ?_ ?_ ?_ ?_ h
  · intro n l; exact Eq.trans (α := EReal) (scan_a _ n l) (by rw [blk1_4]; rfl)
  · intro r l; exact Eq.trans (α := EReal) (scan_dt _ r l) (by rw [blk1_0]; rfl)
  · intro r l; exact Eq.trans (α := EReal) (scan_dx _ _ r l) (by rw [blk1_0, blk1_1]; rfl)
  · intro r n; exact blk1_2 V c t r n

theorem hAt_state (c : Dev nD) (k : ℕ) (hk : k < cfg1.N) (n : Fin 16) (l : Fin 1024) :
    hAt V c k hk (ix2 n l) = stS V c (128 * (k % 16) + 128) (colOf (k / 16) l) n := by
  induction k generalizing n l with
  | zero =>
    exact steps1 V c ⟨0, hk⟩ _ (fun n l => scan_zero (ix2 n l)) 128 le_rfl n l
  | succ k ih =>
    refine steps1 V c ⟨k + 1, hk⟩ _ (fun n l => ?_) 128 le_rfl n l
    show (if (k + 1) % 16 = 0 then k1_pay21 else hAt V c k (Nat.lt_of_succ_lt hk)) (ix2 n l) = stS V c (128 * ((k + 1) % 16)) (colOf ((k + 1) / 16) l) n
    by_cases h : (k + 1) % 16 = 0
    · rw [if_pos h, h]; exact scan_zero (ix2 n l)
    · rw [if_neg h, ih (Nat.lt_of_succ_lt hk) n l]
      rw [show (k + 1) % 16 = k % 16 + 1 by omega, show (k + 1) / 16 = k / 16 by omega, Nat.mul_add]

theorem hBefore_state (c : Dev nD) (t : Fin cfg1.N) (n : Fin 16) (l : Fin 1024) :
    hBefore V c t (ix2 n l) = stS V c (128 * (t.val % 16)) (colOf (t.val / 16) l) n := by
  by_cases h : t.val % 16 = 0
  · rw [hBefore_A V c t h, h]; exact scan_zero (ix2 n l)
  · rw [hBefore_B V c t h, hAt_state]
    rw [show t.val % 16 = (t.val - 1) % 16 + 1 by omega, show t.val / 16 = (t.val - 1) / 16 by omega, Nat.mul_add]

/-- The recurrence's result as an array. -/
theorem scan_arr (c : Dev nD) (hs : ∀ r k, V c main_cst (ix2 r k) = if k.val / 8 = r.val then (1 : EReal) else 0) :
    (dat1 V c).arrAt 6 cfg1.N = (fun j => ssm (dtS V c) (aS V c) (bS V c) (cS V c) (xcS V c) (j 0) (j 2) : S2048x1x2048.Idx → EReal) := by
  refine (dat1 V c).arrAt_eq_of_covers 6 _ (by decide +kernel) fun t hf y => ?_
  blk_simp
  rw [after1_6]; unfold yOut
  obtain ⟨r, l, rfl⟩ : ∃ (r : Fin 128) (l : Fin 1024), y = ix3 r 0 l := ⟨y 0, y 2, by
    refine (eq_ix3 y).trans ?_
    have h1 : (y 1).val < 1 := (y 1).isLt
    exact congrArg (fun z => ix3 (y 0) z (y 2)) (Fin.ext (by show (y 1).val = 0; omega))⟩
  have ht : t.val < 32 := t.isLt
  have e : ((View.whole main_v16).slice (win1_6.rect t)).emb (ix3 r 0 l) = ix3 (row (128 * (t.val % 16) + r.val)) 0 (colOf (t.val / 16) l) := by
    unfold row colOf
    blk_ext [idx1_6]
  rw [e]
  refine Eq.trans (α := EReal) (YP_state (dtS V c) (aS V c) (bS V c) (cS V c) (xcS V c) (t.val % 16) (colOf (t.val / 16)) _ _ _ _ _ _ (steps1 V c t _ (hBefore_state V c t)) (fun r n => blk1_3 V c t r n) _
    (fun r k => (blk1_5 V c t r k).trans (hs r k)) r l) ?_
  have er : (row (128 * (t.val % 16) + r.val)).val = 128 * (t.val % 16) + r.val := Nat.mod_eq_of_lt (by omega)
  show _ = ssm (dtS V c) (aS V c) (bS V c) (cS V c) (xcS V c) (row (128 * (t.val % 16) + r.val)) (colOf (t.val / 16) l)
  unfold ssm
  rw [er]

end Cert.KernelIdeal.Value
-- ==== Proof.V.Gate.lean ====
module

public import proofs.«01_k».proof.Proof.KI.Gate
public import Idealize.ShloMosaic.Lib.Pointwise
public import Idealize.ShloMosaic.Lib.Pipeline.ValueKit
public import proofs.«01_k».proof.Proof.V.Spec

/-! # The gate call's result, at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

/-- The gate block at an index. -/
theorem gate_pay (y xc : Vec Ideal S512x2048 .f32) (dp : Vec Ideal S1x2048 .f32) (z : Vec Ideal S512x2048 .f32) (w : Vec Ideal S2048x1024 .f32)
    (r : Fin 512) (o : Fin 1024) :
    k2_pay1 (F := Ideal) y xc dp z w (ix2 r o)
      = ∑ d : Fin 2048, ((y (ix2 r d) + xc (ix2 r d) * dp (ix2 0 d)) * silu (z (ix2 r d))) * w (ix2 d o) := by
  unfold silu
  pointwise [k2_pay1]

variable (V : (c : Dev nD) → (b : Ref sig .tc) → Buf (Elt Ideal) ((c : Thread nD τ).loc b))

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![t.val, 0] := (by decide +kernel : ∀ t : Fin grid2.N, _)

/-- The gate's result as a function of the arrays it reads. -/
def gateArr (y xc : S2048x2048.Idx → EReal) (z : S2048x2048.Idx → EReal) (dp : S1x2048.Idx → EReal) (w : S2048x1024.Idx → EReal) : S2048x1024.Idx → EReal :=
  fun j => gate (fun t d => y (ix2 t d)) (fun t d => xc (ix2 t d)) (fun d => dp (ix2 0 d)) (fun t d => z (ix2 t d)) (fun d o => w (ix2 d o)) (j 0) (j 1)

theorem blk2_0 (c : Dev nD) (t : Fin cfg2.N) (r : Fin 512) (d : Fin 2048) (h : 512 * t.val + r.val < 2048) :
    iblk2 V c 0 t (ix2 r d) = V c main_v17 (ix2 ⟨512 * t.val + r.val, h⟩ d) := by
  blk_simp [iblk2, idx2_0]
  congr 1
  blk_ext [idx2_0]
theorem blk2_1 (c : Dev nD) (t : Fin cfg2.N) (r : Fin 512) (d : Fin 2048) (h : 512 * t.val + r.val < 2048) :
    iblk2 V c 1 t (ix2 r d) = V c main_v11_0 (ix2 ⟨512 * t.val + r.val, h⟩ d) := by
  blk_simp [iblk2, idx2_1]
  congr 1
  blk_ext [idx2_1]
theorem blk2_2 (c : Dev nD) (t : Fin cfg2.N) (r : Fin 512) (d : Fin 2048) (h : 512 * t.val + r.val < 2048) :
    iblk2 V c 2 t (ix2 r d) = V c main_v11_2 (ix2 ⟨512 * t.val + r.val, h⟩ d) := by
  blk_simp [iblk2, idx2_2]
  congr 1
  blk_ext [idx2_2]
theorem blk2_3 (c : Dev nD) (t : Fin cfg2.N) (d : Fin 2048) :
    iblk2 V c 3 t (ix2 0 d) = V c main_v18 (ix2 0 d) := by
  blk_simp [iblk2, idx2_3]
  congr 1
  blk_ext [idx2_3]
theorem blk2_4 (c : Dev nD) (t : Fin cfg2.N) (d : Fin 2048) (o : Fin 1024) :
    iblk2 V c 4 t (ix2 d o) = V c main_arg9 (ix2 d o) := by
  blk_simp [iblk2, idx2_4]
  congr 1
  blk_ext [idx2_4]

theorem gate_arr (c : Dev nD) : (dat2 V c).arrAt 5 cfg2.N
    = gateArr (V c main_v17) (V c main_v11_0) (V c main_v11_2) (V c main_v18) (V c main_arg9) := by
  refine (dat2 V c).arrAt_eq_of_covers 5 _ (by decide +kernel) fun t hf y => ?_
  blk_simp
  rw [after2_5]; unfold out2_5
  frame_out
  obtain ⟨r, o, rfl⟩ : ∃ (r : Fin 512) (o : Fin 1024), y = ix2 r o := ⟨y 0, y 1, eq_ix2 _⟩
  have ht : t.val < 4 := t.isLt
  have h : 512 * t.val + r.val < 2048 := by omega
  have e : ((View.whole main_v19).slice (win2_5.rect t)).emb (ix2 r o) = ix2 ⟨512 * t.val + r.val, h⟩ o := by
    blk_ext [idx2_5]
  rw [e]
  refine Eq.trans (α := EReal) (gate_pay _ _ _ _ _ r o) ?_
  delta gateArr gate
  beta_reduce
  refine Finset.sum_congr (M := EReal) rfl fun d _ => ?_
  rw [blk2_0 V c t r d h, blk2_1 V c t r d h, blk2_2 V c t r d h, blk2_3, blk2_4]
  rfl
end Cert.KernelIdeal.Value
-- ==== Proof.V.Whole.lean ====
module

public import proofs.«01_k».proof.Proof.V.Spec

/-! # The whole block as one function of its ten arguments -/

@[expose] public section

noncomputable section

namespace Cert.Mamba

open Idealize.ShloMosaic

/-- The ten arguments, each as a function of its coordinates. -/
structure Args where
  x : Fin 2048 → Fin 1024 → EReal
  wIn : Fin 1024 → Fin 4096 → EReal
  cw : Fin 4 → Fin 2048 → EReal
  cb : Fin 2048 → EReal
  wX : Fin 2048 → Fin 96 → EReal
  wDt : Fin 64 → Fin 2048 → EReal
  bDt : Fin 2048 → EReal
  aLog : Fin 2048 → Fin 16 → EReal
  dp : Fin 2048 → EReal
  wOut : Fin 2048 → Fin 1024 → EReal

variable (A : Args)

/-- The convolved half of the input projection. -/
def Args.u : Fin 2048 → Fin 2048 → EReal := lin A.x fun k d => A.wIn k ⟨d.val, by omega⟩
/-- The gating half. -/
def Args.z : Fin 2048 → Fin 2048 → EReal := lin A.x fun k d => A.wIn k ⟨2048 + d.val, by omega⟩
/-- The rows after the convolution and its silu. -/
def Args.xc : Fin 2048 → Fin 2048 → EReal := fun t d => silu (conv A.cw A.cb A.u t d)
/-- The projection to the step's, the input's and the output's columns. -/
def Args.xd : Fin 2048 → Fin 96 → EReal := lin A.xc A.wX
/-- The step's argument. -/
def Args.dtArg : Fin 2048 → Fin 2048 → EReal := fun t d => lin (fun t (r : Fin 64) => A.xd t ⟨r.val, by omega⟩) A.wDt t d + A.bDt d
/-- The step. -/
def Args.dt : Fin 2048 → Fin 2048 → EReal := fun t d => softplus (A.dtArg t d)
/-- The decay rates. -/
def Args.a : Fin 2048 → Fin 16 → EReal := fun d n => -Ideal.exp (A.aLog d n)
/-- The input columns. -/
def Args.b : Fin 2048 → Fin 16 → EReal := fun t n => A.xd t ⟨64 + n.val, by omega⟩
/-- The output columns. -/
def Args.c : Fin 2048 → Fin 16 → EReal := fun t n => A.xd t ⟨80 + n.val, by omega⟩
/-- The recurrence's result. -/
def Args.y : Fin 2048 → Fin 2048 → EReal := ssm A.dt A.a A.b A.c A.xc
/-- The block's result. -/
def Args.out : Fin 2048 → Fin 1024 → EReal := gate A.y A.xc A.dp A.z A.wOut

end Cert.Mamba
-- ==== Proof.V.Host.lean ====
module

public import proofs.«01_k».proof.Proof.KI.Run
public import proofs.«01_k».proof.Proof.V.Whole
public import Idealize.ShloMosaic.Lib.Pointwise
public import Idealize.ShloMosaic.Lib.StableHlo.RunClose

/-! # What the host stretches leave, at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

theorem h_v0 (W : Valuation τ sig (Elt Ideal)) (t : Fin 2048) (k : Fin 1024) :
    (StableHlo.after hostOps0 W (Proc.devRef .tc main_v0) : S2048x1024.Idx → EReal) (ix2 t k)
      = (W (Proc.devRef .tc main_arg0) : S1x2048x1024.Idx → EReal) (ix3 0 t k) := by
  after_results_simp
  pointwise []

theorem h_v1 (W : Valuation τ sig (Elt Ideal)) (k : Fin 1024) (d : Fin 2048) :
    (StableHlo.after hostOps0 W (Proc.devRef .tc main_v1) : S1024x2048.Idx → EReal) (ix2 k d)
      = (W (Proc.devRef .tc main_arg1) : S1024x4096.Idx → EReal) (ix2 k ⟨d.val, by omega⟩) := by
  after_results_simp
  pointwise []

theorem h_v2 (W : Valuation τ sig (Elt Ideal)) (k : Fin 1024) (d : Fin 2048) :
    (StableHlo.after hostOps0 W (Proc.devRef .tc main_v2) : S1024x2048.Idx → EReal) (ix2 k d)
      = (W (Proc.devRef .tc main_arg1) : S1024x4096.Idx → EReal) (ix2 k ⟨2048 + d.val, by omega⟩) := by
  after_results_simp
  pointwise []

theorem h_v4 (W : Valuation τ sig (Elt Ideal)) (k : Fin 4) (d : Fin 2048) :
    (StableHlo.after hostOps0 W (Proc.devRef .tc main_v4) : S4x2048.Idx → EReal) (ix2 k d)
      = (W (Proc.devRef .tc main_arg2) : S2048x1x4.Idx → EReal) (ix3 d 0 k) := by
  after_results_simp
  pointwise []

theorem h_v5 (W : Valuation τ sig (Elt Ideal)) (d : Fin 2048) :
    (StableHlo.after hostOps0 W (Proc.devRef .tc main_v5) : S1x2048.Idx → EReal) (ix2 0 d)
      = (W (Proc.devRef .tc main_arg3) : S2048.Idx → EReal) (ix1 d) := by
  after_results_simp
  pointwise []

theorem h_v6 (W : Valuation τ sig (Elt Ideal)) (d : Fin 2048) (r : Fin 128) (hr : r.val < 96) :
    (StableHlo.after hostOps0_1 W (Proc.devRef .tc main_v6) : S2048x128.Idx → EReal) (ix2 d r)
      = (W (Proc.devRef .tc main_arg4) : S2048x96.Idx → EReal) (ix2 d ⟨r.val, hr⟩) := by
  after_results_simp
  change (pad S2048x128 ![0, 0] ![0, 32] ![0, 0] (W (Proc.devRef .tc main_arg4)) (sitofp (F := Ideal) .f32 (W (Proc.devRef .tc main_c)))
    pads_S2048x96_S2048x128_000_0320 h_S_ : S2048x128.Idx → EReal) (ix2 d r) = _
  pointwise []
  refine dif_pos (Fin.forall_fin_two.2 ⟨⟨Nat.zero_le _, Nat.mod_one _, ?_⟩, Nat.zero_le _, Nat.mod_one _, ?_⟩)
  · change (d.val - 0) / (0 + 1) < 2048
    omega
  · change (r.val - 0) / (0 + 1) < 96
    omega

theorem h_v7 (W : Valuation τ sig (Elt Ideal)) (d : Fin 2048) :
    (StableHlo.after hostOps0_2 W (Proc.devRef .tc main_v7) : S1x2048.Idx → EReal) (ix2 0 d)
      = (W (Proc.devRef .tc main_arg6) : S2048.Idx → EReal) (ix1 d) := by
  after_results_simp
  pointwise []

theorem h_v10 (W : Valuation τ sig (Elt Ideal)) (n : Fin 16) (d : Fin 2048) :
    (StableHlo.after hostOps0_2 W (Proc.devRef .tc main_v10) : S16x2048.Idx → EReal) (ix2 n d)
      = -Ideal.exp ((W (Proc.devRef .tc main_arg7) : S2048x16.Idx → EReal) (ix2 d n)) := by
  after_results_simp
  pointwise []

theorem h_v13 (W : Valuation τ sig (Elt Ideal)) (t : Fin 2048) (n : Fin 16) :
    (StableHlo.after hostOps1 W (Proc.devRef .tc main_v13) : S2048x16x1.Idx → EReal) (ix3 t n 0)
      = (W (Proc.devRef .tc main_v11_3) : S2048x128.Idx → EReal) (ix2 t ⟨64 + n.val, by omega⟩) := by
  after_results_simp
  pointwise []

theorem h_v15 (W : Valuation τ sig (Elt Ideal)) (t : Fin 2048) (n : Fin 16) :
    (StableHlo.after hostOps1 W (Proc.devRef .tc main_v15) : S2048x16x1.Idx → EReal) (ix3 t n 0)
      = (W (Proc.devRef .tc main_v11_3) : S2048x128.Idx → EReal) (ix2 t ⟨80 + n.val, by omega⟩) := by
  after_results_simp
  pointwise []

theorem h_v17 (W : Valuation τ sig (Elt Ideal)) (t d : Fin 2048) :
    (StableHlo.after hostOps2 W (Proc.devRef .tc main_v17) : S2048x2048.Idx → EReal) (ix2 t d)
      = (W (Proc.devRef .tc main_v16) : S2048x1x2048.Idx → EReal) (ix3 t 0 d) := by
  after_results_simp
  pointwise []

theorem h_v18 (W : Valuation τ sig (Elt Ideal)) (d : Fin 2048) :
    (StableHlo.after hostOps2 W (Proc.devRef .tc main_v18) : S1x2048.Idx → EReal) (ix2 0 d)
      = (W (Proc.devRef .tc main_arg8) : S2048.Idx → EReal) (ix1 d) := by
  after_results_simp
  pointwise []

theorem h_v20 (W : Valuation τ sig (Elt Ideal)) (t : Fin 2048) (o : Fin 1024) :
    (StableHlo.after hostOps3 W (Proc.devRef .tc main_v20) : S1x2048x1024.Idx → EReal) (ix3 0 t o)
      = (W (Proc.devRef .tc main_v19) : S2048x1024.Idx → EReal) (ix2 t o) := by
  after_results_simp
  pointwise []

end Cert.KernelIdeal.Value
-- ==== Proof.V.SelDef.lean ====
module

public import proofs.«01_k».proof.KernelIdeal

/-! # The selection matrix: what its entries are to be -/

@[expose] public section

namespace Cert.KernelIdeal.Value

open Cert.KernelIdeal

/-- `p` holds below `n`. -/
def allBelow (p : ℕ → Bool) (n : ℕ) : Bool := Nat.rec (motive := fun _ => Bool) true (fun k ih => p k && ih) n

theorem of_allBelow {p : ℕ → Bool} : ∀ {n : ℕ}, allBelow p n = true → ∀ k < n, p k = true
  | 0, _, k, h => absurd h (Nat.not_lt_zero k)
  | n + 1, h, k, hk => by
    have h' : (p n && allBelow p n) = true := h
    rw [Bool.and_eq_true] at h'
    rcases Nat.lt_succ_iff_lt_or_eq.1 hk with hk | rfl
    · exact of_allBelow h'.2 k hk
    · exact h'.1

/-- Entry `k` is one where the column's group of eight is the row, else zero. -/
noncomputable def selOk (k : ℕ) : Bool := Nat.beq (BitVec.toNat (lit0t k)) (bif Nat.beq (k % 1024 / 8) (k / 1024) then 0x3F800000 else 0)

/-- Row `r` is so. -/
noncomputable abbrev rowOk (r : ℕ) : Bool := allBelow (fun k => selOk (1024 * r + k)) 1024

end Cert.KernelIdeal.Value
-- ==== Proof.V.Sel0.lean ====
module

public import proofs.«01_k».proof.Proof.V.SelDef
public import Mathlib.Tactic.IntervalCases

/-! # The selection matrix, rows 0 to 15, by evaluation -/

@[expose] public section

namespace Cert.KernelIdeal.Value

theorem rowOk0 : rowOk 0 = true := by decide +kernel
theorem rowOk1 : rowOk 1 = true := by decide +kernel
theorem rowOk2 : rowOk 2 = true := by decide +kernel
theorem rowOk3 : rowOk 3 = true := by decide +kernel
theorem rowOk4 : rowOk 4 = true := by decide +kernel
theorem rowOk5 : rowOk 5 = true := by decide +kernel
theorem rowOk6 : rowOk 6 = true := by decide +kernel
theorem rowOk7 : rowOk 7 = true := by decide +kernel
theorem rowOk8 : rowOk 8 = true := by decide +kernel
theorem rowOk9 : rowOk 9 = true := by decide +kernel
theorem rowOk10 : rowOk 10 = true := by decide +kernel
theorem rowOk11 : rowOk 11 = true := by decide +kernel
theorem rowOk12 : rowOk 12 = true := by decide +kernel
theorem rowOk13 : rowOk 13 = true := by decide +kernel
theorem rowOk14 : rowOk 14 = true := by decide +kernel
theorem rowOk15 : rowOk 15 = true := by decide +kernel

theorem rowsOk0 (r : ℕ) (h1 : 0 ≤ r) (h2 : r < 16) : rowOk r = true := by
  interval_cases r
  exacts [rowOk0, rowOk1, rowOk2, rowOk3, rowOk4, rowOk5, rowOk6, rowOk7, rowOk8, rowOk9, rowOk10, rowOk11, rowOk12, rowOk13, rowOk14, rowOk15]

end Cert.KernelIdeal.Value
-- ==== Proof.V.Sel1.lean ====
module

public import proofs.«01_k».proof.Proof.V.SelDef
public import Mathlib.Tactic.IntervalCases

/-! # The selection matrix, rows 16 to 31, by evaluation -/

@[expose] public section

namespace Cert.KernelIdeal.Value

theorem rowOk16 : rowOk 16 = true := by decide +kernel
theorem rowOk17 : rowOk 17 = true := by decide +kernel
theorem rowOk18 : rowOk 18 = true := by decide +kernel
theorem rowOk19 : rowOk 19 = true := by decide +kernel
theorem rowOk20 : rowOk 20 = true := by decide +kernel
theorem rowOk21 : rowOk 21 = true := by decide +kernel
theorem rowOk22 : rowOk 22 = true := by decide +kernel
theorem rowOk23 : rowOk 23 = true := by decide +kernel
theorem rowOk24 : rowOk 24 = true := by decide +kernel
theorem rowOk25 : rowOk 25 = true := by decide +kernel
theorem rowOk26 : rowOk 26 = true := by decide +kernel
theorem rowOk27 : rowOk 27 = true := by decide +kernel
theorem rowOk28 : rowOk 28 = true := by decide +kernel
theorem rowOk29 : rowOk 29 = true := by decide +kernel
theorem rowOk30 : rowOk 30 = true := by decide +kernel
theorem rowOk31 : rowOk 31 = true := by decide +kernel

theorem rowsOk1 (r : ℕ) (h1 : 16 ≤ r) (h2 : r < 32) : rowOk r = true := by
  interval_cases r
  exacts [rowOk16, rowOk17, rowOk18, rowOk19, rowOk20, rowOk21, rowOk22, rowOk23, rowOk24, rowOk25, rowOk26, rowOk27, rowOk28, rowOk29, rowOk30, rowOk31]

end Cert.KernelIdeal.Value
-- ==== Proof.V.Sel2.lean ====
module

public import proofs.«01_k».proof.Proof.V.SelDef
public import Mathlib.Tactic.IntervalCases

/-! # The selection matrix, rows 32 to 47, by evaluation -/

@[expose] public section

namespace Cert.KernelIdeal.Value

theorem rowOk32 : rowOk 32 = true := by decide +kernel
theorem rowOk33 : rowOk 33 = true := by decide +kernel
theorem rowOk34 : rowOk 34 = true := by decide +kernel
theorem rowOk35 : rowOk 35 = true := by decide +kernel
theorem rowOk36 : rowOk 36 = true := by decide +kernel
theorem rowOk37 : rowOk 37 = true := by decide +kernel
theorem rowOk38 : rowOk 38 = true := by decide +kernel
theorem rowOk39 : rowOk 39 = true := by decide +kernel
theorem rowOk40 : rowOk 40 = true := by decide +kernel
theorem rowOk41 : rowOk 41 = true := by decide +kernel
theorem rowOk42 : rowOk 42 = true := by decide +kernel
theorem rowOk43 : rowOk 43 = true := by decide +kernel
theorem rowOk44 : rowOk 44 = true := by decide +kernel
theorem rowOk45 : rowOk 45 = true := by decide +kernel
theorem rowOk46 : rowOk 46 = true := by decide +kernel
theorem rowOk47 : rowOk 47 = true := by decide +kernel

theorem rowsOk2 (r : ℕ) (h1 : 32 ≤ r) (h2 : r < 48) : rowOk r = true := by
  interval_cases r
  exacts [rowOk32, rowOk33, rowOk34, rowOk35, rowOk36, rowOk37, rowOk38, rowOk39, rowOk40, rowOk41, rowOk42, rowOk43, rowOk44, rowOk45, rowOk46, rowOk47]

end Cert.KernelIdeal.Value
-- ==== Proof.V.Sel3.lean ====
module

public import proofs.«01_k».proof.Proof.V.SelDef
public import Mathlib.Tactic.IntervalCases

/-! # The selection matrix, rows 48 to 63, by evaluation -/

@[expose] public section

namespace Cert.KernelIdeal.Value

theorem rowOk48 : rowOk 48 = true := by decide +kernel
theorem rowOk49 : rowOk 49 = true := by decide +kernel
theorem rowOk50 : rowOk 50 = true := by decide +kernel
theorem rowOk51 : rowOk 51 = true := by decide +kernel
theorem rowOk52 : rowOk 52 = true := by decide +kernel
theorem rowOk53 : rowOk 53 = true := by decide +kernel
theorem rowOk54 : rowOk 54 = true := by decide +kernel
theorem rowOk55 : rowOk 55 = true := by decide +kernel
theorem rowOk56 : rowOk 56 = true := by decide +kernel
theorem rowOk57 : rowOk 57 = true := by decide +kernel
theorem rowOk58 : rowOk 58 = true := by decide +kernel
theorem rowOk59 : rowOk 59 = true := by decide +kernel
theorem rowOk60 : rowOk 60 = true := by decide +kernel
theorem rowOk61 : rowOk 61 = true := by decide +kernel
theorem rowOk62 : rowOk 62 = true := by decide +kernel
theorem rowOk63 : rowOk 63 = true := by decide +kernel

theorem rowsOk3 (r : ℕ) (h1 : 48 ≤ r) (h2 : r < 64) : rowOk r = true := by
  interval_cases r
  exacts [rowOk48, rowOk49, rowOk50, rowOk51, rowOk52, rowOk53, rowOk54, rowOk55, rowOk56, rowOk57, rowOk58, rowOk59, rowOk60, rowOk61, rowOk62, rowOk63]

end Cert.KernelIdeal.Value
-- ==== Proof.V.Sel4.lean ====
module

public import proofs.«01_k».proof.Proof.V.SelDef
public import Mathlib.Tactic.IntervalCases

/-! # The selection matrix, rows 64 to 79, by evaluation -/

@[expose] public section

namespace Cert.KernelIdeal.Value

theorem rowOk64 : rowOk 64 = true := by decide +kernel
theorem rowOk65 : rowOk 65 = true := by decide +kernel
theorem rowOk66 : rowOk 66 = true := by decide +kernel
theorem rowOk67 : rowOk 67 = true := by decide +kernel
theorem rowOk68 : rowOk 68 = true := by decide +kernel
theorem rowOk69 : rowOk 69 = true := by decide +kernel
theorem rowOk70 : rowOk 70 = true := by decide +kernel
theorem rowOk71 : rowOk 71 = true := by decide +kernel
theorem rowOk72 : rowOk 72 = true := by decide +kernel
theorem rowOk73 : rowOk 73 = true := by decide +kernel
theorem rowOk74 : rowOk 74 = true := by decide +kernel
theorem rowOk75 : rowOk 75 = true := by decide +kernel
theorem rowOk76 : rowOk 76 = true := by decide +kernel
theorem rowOk77 : rowOk 77 = true := by decide +kernel
theorem rowOk78 : rowOk 78 = true := by decide +kernel
theorem rowOk79 : rowOk 79 = true := by decide +kernel

theorem rowsOk4 (r : ℕ) (h1 : 64 ≤ r) (h2 : r < 80) : rowOk r = true := by
  interval_cases r
  exacts [rowOk64, rowOk65, rowOk66, rowOk67, rowOk68, rowOk69, rowOk70, rowOk71, rowOk72, rowOk73, rowOk74, rowOk75, rowOk76, rowOk77, rowOk78, rowOk79]

end Cert.KernelIdeal.Value
-- ==== Proof.V.Sel5.lean ====
module

public import proofs.«01_k».proof.Proof.V.SelDef
public import Mathlib.Tactic.IntervalCases

/-! # The selection matrix, rows 80 to 95, by evaluation -/

@[expose] public section

namespace Cert.KernelIdeal.Value

theorem rowOk80 : rowOk 80 = true := by decide +kernel
theorem rowOk81 : rowOk 81 = true := by decide +kernel
theorem rowOk82 : rowOk 82 = true := by decide +kernel
theorem rowOk83 : rowOk 83 = true := by decide +kernel
theorem rowOk84 : rowOk 84 = true := by decide +kernel
theorem rowOk85 : rowOk 85 = true := by decide +kernel
theorem rowOk86 : rowOk 86 = true := by decide +kernel
theorem rowOk87 : rowOk 87 = true := by decide +kernel
theorem rowOk88 : rowOk 88 = true := by decide +kernel
theorem rowOk89 : rowOk 89 = true := by decide +kernel
theorem rowOk90 : rowOk 90 = true := by decide +kernel
theorem rowOk91 : rowOk 91 = true := by decide +kernel
theorem rowOk92 : rowOk 92 = true := by decide +kernel
theorem rowOk93 : rowOk 93 = true := by decide +kernel
theorem rowOk94 : rowOk 94 = true := by decide +kernel
theorem rowOk95 : rowOk 95 = true := by decide +kernel

theorem rowsOk5 (r : ℕ) (h1 : 80 ≤ r) (h2 : r < 96) : rowOk r = true := by
  interval_cases r
  exacts [rowOk80, rowOk81, rowOk82, rowOk83, rowOk84, rowOk85, rowOk86, rowOk87, rowOk88, rowOk89, rowOk90, rowOk91, rowOk92, rowOk93, rowOk94, rowOk95]

end Cert.KernelIdeal.Value
-- ==== Proof.V.Sel6.lean ====
module

public import proofs.«01_k».proof.Proof.V.SelDef
public import Mathlib.Tactic.IntervalCases

/-! # The selection matrix, rows 96 to 111, by evaluation -/

@[expose] public section

namespace Cert.KernelIdeal.Value

theorem rowOk96 : rowOk 96 = true := by decide +kernel
theorem rowOk97 : rowOk 97 = true := by decide +kernel
theorem rowOk98 : rowOk 98 = true := by decide +kernel
theorem rowOk99 : rowOk 99 = true := by decide +kernel
theorem rowOk100 : rowOk 100 = true := by decide +kernel
theorem rowOk101 : rowOk 101 = true := by decide +kernel
theorem rowOk102 : rowOk 102 = true := by decide +kernel
theorem rowOk103 : rowOk 103 = true := by decide +kernel
theorem rowOk104 : rowOk 104 = true := by decide +kernel
theorem rowOk105 : rowOk 105 = true := by decide +kernel
theorem rowOk106 : rowOk 106 = true := by decide +kernel
theorem rowOk107 : rowOk 107 = true := by decide +kernel
theorem rowOk108 : rowOk 108 = true := by decide +kernel
theorem rowOk109 : rowOk 109 = true := by decide +kernel
theorem rowOk110 : rowOk 110 = true := by decide +kernel
theorem rowOk111 : rowOk 111 = true := by decide +kernel

theorem rowsOk6 (r : ℕ) (h1 : 96 ≤ r) (h2 : r < 112) : rowOk r = true := by
  interval_cases r
  exacts [rowOk96, rowOk97, rowOk98, rowOk99, rowOk100, rowOk101, rowOk102, rowOk103, rowOk104, rowOk105, rowOk106, rowOk107, rowOk108, rowOk109, rowOk110, rowOk111]

end Cert.KernelIdeal.Value
-- ==== Proof.V.Sel7.lean ====
module

public import proofs.«01_k».proof.Proof.V.SelDef
public import Mathlib.Tactic.IntervalCases

/-! # The selection matrix, rows 112 to 127, by evaluation -/

@[expose] public section

namespace Cert.KernelIdeal.Value

theorem rowOk112 : rowOk 112 = true := by decide +kernel
theorem rowOk113 : rowOk 113 = true := by decide +kernel
theorem rowOk114 : rowOk 114 = true := by decide +kernel
theorem rowOk115 : rowOk 115 = true := by decide +kernel
theorem rowOk116 : rowOk 116 = true := by decide +kernel
theorem rowOk117 : rowOk 117 = true := by decide +kernel
theorem rowOk118 : rowOk 118 = true := by decide +kernel
theorem rowOk119 : rowOk 119 = true := by decide +kernel
theorem rowOk120 : rowOk 120 = true := by decide +kernel
theorem rowOk121 : rowOk 121 = true := by decide +kernel
theorem rowOk122 : rowOk 122 = true := by decide +kernel
theorem rowOk123 : rowOk 123 = true := by decide +kernel
theorem rowOk124 : rowOk 124 = true := by decide +kernel
theorem rowOk125 : rowOk 125 = true := by decide +kernel
theorem rowOk126 : rowOk 126 = true := by decide +kernel
theorem rowOk127 : rowOk 127 = true := by decide +kernel

theorem rowsOk7 (r : ℕ) (h1 : 112 ≤ r) (h2 : r < 128) : rowOk r = true := by
  interval_cases r
  exacts [rowOk112, rowOk113, rowOk114, rowOk115, rowOk116, rowOk117, rowOk118, rowOk119, rowOk120, rowOk121, rowOk122, rowOk123, rowOk124, rowOk125, rowOk126, rowOk127]

end Cert.KernelIdeal.Value
-- ==== Proof.V.Sel.lean ====
module

public import proofs.«01_k».proof.Proof.V.Sel0
public import proofs.«01_k».proof.Proof.V.Sel1
public import proofs.«01_k».proof.Proof.V.Sel2
public import proofs.«01_k».proof.Proof.V.Sel3
public import proofs.«01_k».proof.Proof.V.Sel4
public import proofs.«01_k».proof.Proof.V.Sel5
public import proofs.«01_k».proof.Proof.V.Sel6
public import proofs.«01_k».proof.Proof.V.Sel7
public import proofs.«01_k».proof.Proof.KI.Run
public import Idealize.ShloMosaic.Lib.Pointwise
public import Idealize.ShloMosaic.Lib.StableHlo.RunClose

/-! # The selection matrix at an index -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Idealize.ShloMosaic.Pipeline (Dat Cfg Window)

theorem rowsOk (r : Fin 128) : rowOk r.val = true := by
  obtain ⟨r, hr⟩ := r
  change rowOk r = true
  by_cases h0 : r < 16
  · exact rowsOk0 r (by omega) h0
  by_cases h1 : r < 32
  · exact rowsOk1 r (by omega) h1
  by_cases h2 : r < 48
  · exact rowsOk2 r (by omega) h2
  by_cases h3 : r < 64
  · exact rowsOk3 r (by omega) h3
  by_cases h4 : r < 80
  · exact rowsOk4 r (by omega) h4
  by_cases h5 : r < 96
  · exact rowsOk5 r (by omega) h5
  by_cases h6 : r < 112
  · exact rowsOk6 r (by omega) h6
  · exact rowsOk7 r (by omega) hr

theorem sel_word (r : Fin 128) (k : Fin 1024) : lit0t (1024 * r.val + k.val) = if k.val / 8 = r.val then 0x3F800000#32 else 0#32 := by
  have h := of_allBelow (rowsOk r) k.val k.isLt
  have h' := Nat.eq_of_beq_eq_true h
  have e1 : (1024 * r.val + k.val) % 1024 = k.val := by omega
  have e2 : (1024 * r.val + k.val) / 1024 = r.val := by omega
  rw [e1, e2] at h'
  apply BitVec.eq_of_toNat_eq
  rw [h']
  by_cases hk : k.val / 8 = r.val
  · rw [if_pos hk, hk, Nat.beq_refl]; rfl
  · have hb : Nat.beq (k.val / 8) r.val = false := by
      rw [← Bool.not_eq_true]; exact fun hb => hk (Nat.eq_of_beq_eq_true hb)
    rw [if_neg hk, hb]; rfl

theorem lit_val (i : Fin S128x1024.numel) : lit0 i = lit0t i.val := by
  obtain ⟨i, hi⟩ := i
  rfl

theorem sel_lit (r : Fin 128) (k : Fin 1024) :
    lit0 (S128x1024.rowMajor (ix2 r k)) = if k.val / 8 = r.val then 0x3F800000#32 else 0#32 := by
  have e : (S128x1024.rowMajor (ix2 r k)).val = 1024 * r.val + k.val := by
    rw [Shape.rowMajor_val_two]
    change r.val * 1024 + k.val = 1024 * r.val + k.val
    omega
  rw [lit_val, e, sel_word]

theorem one_or_zero (p : Prop) [Decidable p] : Ideal.ofBits .f32 (if p then 0x3F800000#32 else 0#32) = if p then (1 : EReal) else 0 := by
  split
  · exact Ideal.ofBits_one_f32
  · exact Ideal.ofBits_zero_f32

theorem sel_at (W : Valuation τ sig (Elt Ideal)) (r : Fin 128) (k : Fin 1024) :
    (StableHlo.after hostOps0 W (Proc.devRef .tc main_cst) : S128x1024.Idx → EReal) (ix2 r k) = if k.val / 8 = r.val then (1 : EReal) else 0 := by
  after_results_simp
  exact (congrArg (Ideal.ofBits .f32) (sel_lit r k)).trans (one_or_zero _)

end Cert.KernelIdeal.Value
-- ==== Proof.V.Kernel.lean ====
module

public import proofs.«01_k».proof.Proof.V.Proj
public import proofs.«01_k».proof.Proof.V.Scan
public import proofs.«01_k».proof.Proof.V.Gate
public import proofs.«01_k».proof.Proof.V.Host
public import proofs.«01_k».proof.Proof.V.Sel

/-! # The kernel's result as a function of its arguments -/

@[expose] public section

set_option maxRecDepth 16384

noncomputable section

namespace Cert.KernelIdeal.Value

open Cert.KernelIdeal Cert.KernelIdeal.Gen Cert.KernelIdeal.Hand
open Idealize.ShloMosaic Idealize.ShloMosaic.TcCoe
open Cert.Mamba
open Idealize.ShloMosaic.Pipeline (Dat Cfg Window)

variable (m : (ℓ : Loc nD τ sig) → Buf (Elt Ideal) ℓ) (ρ : Dev nD → PrngReg) (c : Dev nD)

/-- The arguments in core `c`'s memory. -/
def args : Args where
  x t k := (m ((c : Thread nD τ).loc main_arg0) : S1x2048x1024.Idx → EReal) (ix3 0 t k)
  wIn k d := (m ((c : Thread nD τ).loc main_arg1) : S1024x4096.Idx → EReal) (ix2 k d)
  cw k d := (m ((c : Thread nD τ).loc main_arg2) : S2048x1x4.Idx → EReal) (ix3 d 0 k)
  cb d := (m ((c : Thread nD τ).loc main_arg3) : S2048.Idx → EReal) (ix1 d)
  wX d r := (m ((c : Thread nD τ).loc main_arg4) : S2048x96.Idx → EReal) (ix2 d r)
  wDt r d := (m ((c : Thread nD τ).loc main_arg5) : S64x2048.Idx → EReal) (ix2 r d)
  bDt d := (m ((c : Thread nD τ).loc main_arg6) : S2048.Idx → EReal) (ix1 d)
  aLog d n := (m ((c : Thread nD τ).loc main_arg7) : S2048x16.Idx → EReal) (ix2 d n)
  dp d := (m ((c : Thread nD τ).loc main_arg8) : S2048.Idx → EReal) (ix1 d)
  wOut d o := (m ((c : Thread nD τ).loc main_arg9) : S2048x1024.Idx → EReal) (ix2 d o)

/-! ## Before the first call -/

theorem W3_pre (r : Ref sig .tc) (h1 : r ∉ hostOps0_1_W) (h2 : r ∉ hostOps0_2_W) :
    W3 m ρ c (Proc.devRef .tc r) = W1 m ρ c (Proc.devRef .tc r) := (W3_of m ρ c r h2).trans (W2_of m ρ c r h1)

theorem k_x : xA (V3 m ρ) c = (args m c).x := by
  funext t k
  exact (congrFun (W3_pre m ρ c main_v0 (by decide) (by decide)) (ix2 t k)).trans (h_v0 (W0 m ρ c) t k)
theorem k_w1 : w1A (V3 m ρ) c = fun k d => (args m c).wIn k ⟨d.val, by omega⟩ := by
  funext k d
  exact (congrFun (W3_pre m ρ c main_v1 (by decide) (by decide)) (ix2 k d)).trans (h_v1 (W0 m ρ c) k d)
theorem k_w2 : w2A (V3 m ρ) c = fun k d => (args m c).wIn k ⟨2048 + d.val, by omega⟩ := by
  funext k d
  exact (congrFun (W3_pre m ρ c main_v2 (by decide) (by decide)) (ix2 k d)).trans (h_v2 (W0 m ρ c) k d)
theorem k_cw : cwA (V3 m ρ) c = (args m c).cw := by
  funext k d
  exact (congrFun (W3_pre m ρ c main_v4 (by decide) (by decide)) (ix2 k d)).trans (h_v4 (W0 m ρ c) k d)
theorem k_cb : cbA (V3 m ρ) c = (args m c).cb := by
  funext d
  exact (congrFun (W3_pre m ρ c main_v5 (by decide) (by decide)) (ix2 0 d)).trans (h_v5 (W0 m ρ c) d)
theorem k_wx (d : Fin 2048) (r : Fin 128) (hr : r.val < 96) : wxA (V3 m ρ) c d r = (args m c).wX d ⟨r.val, hr⟩ :=
  (congrFun (W3_of m ρ c main_v6 (by decide)) (ix2 d r)).trans ((h_v6 (W1 m ρ c) d r hr).trans
    (congrFun (W1_args m ρ c main_arg4 (by decide)) (ix2 d ⟨r.val, hr⟩)))
theorem k_wd : wdA (V3 m ρ) c = (args m c).wDt := by
  funext r d
  exact congrFun (W3_args m ρ c main_arg5 (by decide)) (ix2 r d)
theorem k_bd : bdA (V3 m ρ) c = (args m c).bDt := by
  funext d
  exact (h_v7 (W2 m ρ c) d).trans (congrFun (W2_args m ρ c main_arg6 (by decide)) (ix1 d))

theorem k_xc : xcA (V3 m ρ) c = (args m c).xc := by
  unfold xcA Args.xc Args.u
  rw [k_x, k_w1, k_cw, k_cb]
theorem k_z : lin (xA (V3 m ρ) c) (w2A (V3 m ρ) c) = (args m c).z := by
  unfold Args.z
  rw [k_x, k_w2]
theorem k_xd (t : Fin 2048) (r : Fin 128) (hr : r.val < 96) : xdA (V3 m ρ) c t r = (args m c).xd t ⟨r.val, hr⟩ := by
  unfold xdA Args.xd lin
  rw [k_xc]
  exact Finset.sum_congr rfl fun k _ => by rw [k_wx m ρ c k r hr]
theorem k_dt : dtA (V3 m ρ) c = (args m c).dtArg := by
  have h : (fun (t : Fin 2048) (r : Fin 64) => xdA (V3 m ρ) c t ⟨r.val, by omega⟩) = fun t r => (args m c).xd t ⟨r.val, by omega⟩ := by
    funext t r
    exact k_xd m ρ c t ⟨r.val, by omega⟩ (by change r.val < 96; omega)
  funext t d
  have e : dtA (V3 m ρ) c t d = lin (fun (t : Fin 2048) (r : Fin 64) => xdA (V3 m ρ) c t ⟨r.val, by omega⟩) (wdA (V3 m ρ) c) t d + bdA (V3 m ρ) c d := rfl
  rw [e, h, k_wd, k_bd]
  rfl

/-! ## Between the first and the second -/

theorem W5_pre (r : Ref sig .tc) (h1 : r ∉ hostOps1_W) (h : ∀ w : Fin cfg0.W, Pipeline.arrRef spec0 w = r → (cfg0.win w).isOut = false) :
    W5 m ρ c (Proc.devRef .tc r) = W3 m ρ c (Proc.devRef .tc r) := (W5_of m ρ c r h1).trans (W4_of m ρ c r h)

theorem k_dtS : dtS (V5 m ρ) c = (args m c).dt := by
  funext t d
  unfold dtS Args.dt
  refine congrArg softplus ?_
  refine Eq.trans (α := EReal) (congrFun ((W5_of m ρ c main_v11_1 (by decide)).trans ((W4_arr m ρ c 10).trans (proj_arr10 (V3 m ρ) c))) (ix2 t d)) ?_
  exact congrFun (congrFun (k_dt m ρ c) t) d
theorem k_xcS : xcS (V5 m ρ) c = (args m c).xc := by
  funext t d
  refine Eq.trans (α := EReal) (congrFun ((W5_of m ρ c main_v11_0 (by decide)).trans ((W4_arr m ρ c 9).trans (proj_arr9 (V3 m ρ) c))) (ix2 t d)) ?_
  exact congrFun (congrFun (k_xc m ρ c) t) d
theorem k_aS : aS (V5 m ρ) c = (args m c).a := by
  funext d n
  refine Eq.trans (α := EReal) (congrFun (W5_pre m ρ c main_v10 (by decide) (by decide)) (ix2 n d)) ?_
  refine Eq.trans (α := EReal) (h_v10 (W2 m ρ c) n d) ?_
  exact congrArg (fun v : EReal => -Ideal.exp v) (congrFun (W2_args m ρ c main_arg7 (by decide)) (ix2 d n))
theorem k_xdW (t : Fin 2048) (r : Fin 128) (hr : r.val < 96) :
    (W4 m ρ c (Proc.devRef .tc main_v11_3) : S2048x128.Idx → EReal) (ix2 t r) = (args m c).xd t ⟨r.val, hr⟩ := by
  refine Eq.trans (α := EReal) (congrFun ((W4_arr m ρ c 12).trans (proj_arr12 (V3 m ρ) c)) (ix2 t r)) ?_
  exact k_xd m ρ c t r hr
theorem k_bS : bS (V5 m ρ) c = (args m c).b := by
  funext t n
  exact (h_v13 (W4 m ρ c) t n).trans (k_xdW m ρ c t ⟨64 + n.val, by omega⟩ (by change 64 + n.val < 96; omega))
theorem k_cS : cS (V5 m ρ) c = (args m c).c := by
  funext t n
  exact (h_v15 (W4 m ρ c) t n).trans (k_xdW m ρ c t ⟨80 + n.val, by omega⟩ (by change 80 + n.val < 96; omega))
theorem k_sel (r : Fin 128) (k : Fin 1024) : V5 m ρ c main_cst (ix2 r k) = if k.val / 8 = r.val then (1 : EReal) else 0 := by
  refine Eq.trans (α := EReal) (congrFun (W5_pre m ρ c main_cst (by decide) (by decide)) (ix2 r k)) ?_
  refine Eq.trans (α := EReal) (congrFun (W3_pre m ρ c main_cst (by decide) (by decide)) (ix2 r k)) ?_
  exact sel_at (W0 m ρ c) r k

/-! ## Between the second and the third -/

theorem k_y (t d : Fin 2048) : (W6 m ρ c (Proc.devRef .tc main_v16) : S2048x1x2048.Idx → EReal) (ix3 t 0 d) = (args m c).y t d := by
  refine Eq.trans (α := EReal) (congrFun ((W6_arr m ρ c 6).trans (scan_arr (V5 m ρ) c (k_sel m ρ c))) (ix3 t 0 d)) ?_
  rw [k_dtS, k_aS, k_bS, k_cS, k_xcS]
  rfl

theorem k_out (t : Fin 2048) (o : Fin 1024) :
    (W9 m ρ c (Proc.devRef .tc main_v20) : S1x2048x1024.Idx → EReal) (ix3 0 t o) = (args m c).out t o := by
  refine Eq.trans (α := EReal) (h_v20 (W8 m ρ c) t o) ?_
  refine Eq.trans (α := EReal) (congrFun ((W8_arr m ρ c 5).trans (gate_arr (V7 m ρ) c)) (ix2 t o)) ?_
  unfold gateArr Args.out
  have hy : (fun t d => (V7 m ρ c main_v17 : S2048x2048.Idx → EReal) (ix2 t d)) = (args m c).y := by
    funext t d
    exact (h_v17 (W6 m ρ c) t d).trans (k_y m ρ c t d)
  have hxc : (fun t d => (V7 m ρ c main_v11_0 : S2048x2048.Idx → EReal) (ix2 t d)) = (args m c).xc := by
    rw [← k_xcS m ρ c]
    funext t d
    exact congrFun ((W7_of m ρ c main_v11_0 (by decide)).trans (W6_of m ρ c main_v11_0 (by decide))) (ix2 t d)
  have hz : (fun t d => (V7 m ρ c main_v11_2 : S2048x2048.Idx → EReal) (ix2 t d)) = (args m c).z := by
    rw [← k_z m ρ c]
    funext t d
    exact congrFun ((W7_of m ρ c main_v11_2 (by decide)).trans ((W6_of m ρ c main_v11_2 (by decide)).trans
      ((W5_of m ρ c main_v11_2 (by decide)).trans ((W4_arr m ρ c 11).trans (proj_arr11 (V3 m ρ) c))))) (ix2 t d)
  have hd : (fun d => (V7 m ρ c main_v18 : S1x2048.Idx → EReal) (ix2 0 d)) = (args m c).dp := by
    funext d
    exact (h_v18 (W6 m ρ c) d).trans (congrFun (W6_args m ρ c main_arg8 (by decide)) (ix1 d))
  have hw : (fun d o => (V7 m ρ c main_arg9 : S2048x1024.Idx → EReal) (ix2 d o)) = (args m c).wOut := by
    funext d o
    exact congrFun (W7_args m ρ c main_arg9 (by decide)) (ix2 d o)
  have h := congr (congr (congr (congr (congrArg gate hy) hxc) hd) hz) hw
  exact congrFun (congrFun h t) o

end Cert.KernelIdeal.Value
-- ==== Proof.V.RefOps.lean ====
module

public import proofs.«01_k».proof.Proof.RI.Run
public import proofs.«01_k».proof.Proof.V.Whole
public import Idealize.ShloMosaic.Lib.Pointwise
public import Idealize.ShloMosaic.Lib.StableHlo.RunClose

/-! # What the reference's stretches leave, at an index -/

@[expose] public section

set_option maxRecDepth 16384

noncomputable section

namespace Cert.ReferenceIdeal.Spec

open Cert.ReferenceIdeal Cert.ReferenceIdeal.Gen Cert.ReferenceIdeal.Value Cert.ReferenceIdeal.Hand
open Idealize.ShloMosaic Idealize.ShloMosaic.TcCoe
open Cert.Mamba

/-- An array at an index. -/
def rd (s : Shape) (v : s.Idx → EReal) (j : s.Idx) : EReal := v j

variable (W : Valuation τ sig (Elt Ideal))

theorem r_v1 (t d : Fin 2048) :
    rd S1x2048x2048 (StableHlo.after hostOps0 W (Proc.devRef .tc main_v1)) (ix3 0 t d)
      = ∑ k : Fin 1024, rd S1x2048x1024 (W (Proc.devRef .tc main_arg0)) (ix3 0 t k) * rd S1024x4096 (W (Proc.devRef .tc main_arg1)) (ix2 k ⟨d.val, by omega⟩) := by
  unfold rd
  after_results_simp
  pointwise []

theorem r_v2 (t d : Fin 2048) :
    rd S1x2048x2048 (StableHlo.after hostOps0 W (Proc.devRef .tc main_v2)) (ix3 0 t d)
      = ∑ k : Fin 1024, rd S1x2048x1024 (W (Proc.devRef .tc main_arg0)) (ix3 0 t k) * rd S1024x4096 (W (Proc.devRef .tc main_arg1)) (ix2 k ⟨2048 + d.val, by omega⟩) := by
  unfold rd
  after_results_simp
  pointwise []

theorem r_v3 (hc : W (Proc.devRef .tc main_c) = constantI S_ 32 0#32) (s : Fin 2051) (d : Fin 2048) :
    rd S1x2051x2048 (StableHlo.after hostOps0_1 W (Proc.devRef .tc main_v3)) (ix3 0 s d)
      = late (fun t d => rd S1x2048x2048 (W (Proc.devRef .tc main_v1)) (ix3 0 t d)) s.val d := by
  unfold rd
  after_results_simp
  change (pad S1x2051x2048 ![0, 3, 0] ![0, 0, 0] ![0, 0, 0] (W (Proc.devRef .tc main_v1)) (sitofp (F := Ideal) .f32 (W (Proc.devRef .tc main_c)))
    pads_S1x2048x2048_S1x2051x2048_000_300_000 h_S_ : S1x2051x2048.Idx → EReal) (ix3 0 s d) = _
  pointwise []
  unfold late
  have key : (∀ a : Fin 3, (![0, 3, 0] : Fin 3 → ℕ) a ≤ (ix3 (0 : Fin 1) s d a).val ∧ ((ix3 (0 : Fin 1) s d a).val - (![0, 3, 0] : Fin 3 → ℕ) a) % ((![0, 0, 0] : Fin 3 → ℕ) a + 1) = 0 ∧
      ((ix3 (0 : Fin 1) s d a).val - (![0, 3, 0] : Fin 3 → ℕ) a) / ((![0, 0, 0] : Fin 3 → ℕ) a + 1) < (![1, 2048, 2048] : Fin 3 → ℕ) a) ↔ (3 ≤ s.val ∧ s.val - 3 < 2048) := by
    constructor
    · intro h
      have h1 := h 1
      refine ⟨h1.1, ?_⟩
      have := h1.2.2
      change (s.val - 3) / (0 + 1) < 2048 at this
      omega
    · rintro ⟨h1, h2⟩ a
      match a with
      | 0 => exact ⟨Nat.zero_le _, Nat.mod_one _, by change (0 - 0) / (0 + 1) < 1; omega⟩
      | 1 => exact ⟨h1, Nat.mod_one _, by change (s.val - 3) / (0 + 1) < 2048; omega⟩
      | 2 => exact ⟨Nat.zero_le _, Nat.mod_one _, by change (d.val - 0) / (0 + 1) < 2048; omega⟩
  by_cases h : 3 ≤ s.val ∧ s.val - 3 < 2048
  · rw [dif_pos h]
    exact dif_pos (key.2 h)
  · rw [dif_neg h]
    refine (dif_neg (fun h' => h (key.1 h'))).trans ?_
    rw [hc]
    change (((0#32 : BitVec 32).toInt : ℝ) : EReal) = 0
    simp

theorem r_v35 (t d : Fin 2048) :
    rd S1x2048x2048 (StableHlo.after hostOps0_2 W (Proc.devRef .tc main_v35)) (ix3 0 t d)
      = (0 : EReal) + rd S1x2051x2048 (W (Proc.devRef .tc main_v3)) (ix3 0 ⟨t.val, by omega⟩ d) * rd S2048x1x4 (W (Proc.devRef .tc main_arg2)) (ix3 d 0 0) + rd S1x2051x2048 (W (Proc.devRef .tc main_v3)) (ix3 0 ⟨1 + t.val, by omega⟩ d) * rd S2048x1x4 (W (Proc.devRef .tc main_arg2)) (ix3 d 0 1) + rd S1x2051x2048 (W (Proc.devRef .tc main_v3)) (ix3 0 ⟨2 + t.val, by omega⟩ d) * rd S2048x1x4 (W (Proc.devRef .tc main_arg2)) (ix3 d 0 2) + rd S1x2051x2048 (W (Proc.devRef .tc main_v3)) (ix3 0 ⟨3 + t.val, by omega⟩ d) * rd S2048x1x4 (W (Proc.devRef .tc main_arg2)) (ix3 d 0 3) + rd S2048 (W (Proc.devRef .tc main_arg3)) (ix1 d) := by
  unfold rd
  after_results_simp
  pointwise []

theorem r_v39 (t : Fin 2048) (n : Fin 16) :
    rd S1x2048x16 (StableHlo.after hostOps0_4 W (Proc.devRef .tc main_v39)) (ix3 0 t n)
      = (∑ k : Fin 2048, rd S1x2048x2048 (W (Proc.devRef .tc main_v36)) (ix3 0 t k) * rd S2048x96 (W (Proc.devRef .tc main_arg4)) (ix2 k ⟨64 + n.val, by omega⟩)) := by
  unfold rd
  after_results_simp
  pointwise []

theorem r_v40 (t : Fin 2048) (n : Fin 16) :
    rd S1x2048x16 (StableHlo.after hostOps0_4 W (Proc.devRef .tc main_v40)) (ix3 0 t n)
      = (∑ k : Fin 2048, rd S1x2048x2048 (W (Proc.devRef .tc main_v36)) (ix3 0 t k) * rd S2048x96 (W (Proc.devRef .tc main_arg4)) (ix2 k ⟨80 + n.val, by omega⟩)) := by
  unfold rd
  after_results_simp
  pointwise []

theorem r_v44 (t d : Fin 2048) :
    rd S1x2048x2048 (StableHlo.after hostOps0_4 W (Proc.devRef .tc main_v44)) (ix3 0 t d)
      = (∑ r : Fin 64, (∑ k : Fin 2048, rd S1x2048x2048 (W (Proc.devRef .tc main_v36)) (ix3 0 t k) * rd S2048x96 (W (Proc.devRef .tc main_arg4)) (ix2 k ⟨r.val, by omega⟩)) * rd S64x2048 (W (Proc.devRef .tc main_arg5)) (ix2 r d)) + rd S2048 (W (Proc.devRef .tc main_arg6)) (ix1 d) := by
  unfold rd
  after_results_simp
  pointwise []

theorem r_v67_0 (t d : Fin 2048) (n : Fin 16) :
    rd S2048x1x2048x16 (StableHlo.after hostOps0_6 W (Proc.devRef .tc main_v67_0)) (ix4 t 0 d n)
      = Ideal.exp (rd S1x2048x2048 (W (Proc.devRef .tc main_v45)) (ix3 0 t d) * -Ideal.exp (rd S2048x16 (W (Proc.devRef .tc main_arg7)) (ix2 d n))) := by
  unfold rd
  after_results_simp
  simp only [id_eq]
  pointwise []

theorem r_v67_1 (t d : Fin 2048) (n : Fin 16) :
    rd S2048x1x2048x16 (StableHlo.after hostOps0_6 W (Proc.devRef .tc main_v67_1)) (ix4 t 0 d n)
      = (rd S1x2048x2048 (W (Proc.devRef .tc main_v45)) (ix3 0 t d) * rd S1x2048x16 (W (Proc.devRef .tc main_v39)) (ix3 0 t n)) * rd S1x2048x2048 (W (Proc.devRef .tc main_v36)) (ix3 0 t d) := by
  unfold rd
  after_results_simp
  simp only [id_eq]
  pointwise []

theorem r_v67_2 (t : Fin 2048) (n : Fin 16) :
    rd S2048x1x16 (StableHlo.after hostOps0_6 W (Proc.devRef .tc main_v67_2)) (ix3 t 0 n)
      = rd S1x2048x16 (W (Proc.devRef .tc main_v40)) (ix3 0 t n) := by
  unfold rd
  after_results_simp
  simp only [id_eq]
  pointwise []

theorem r_v67_4 (d : Fin 2048) (n : Fin 16) :
    rd S1x2048x16 (StableHlo.after hostOps0_6 W (Proc.devRef .tc main_v67_4)) (ix3 0 d n)
      = 0 := by
  unfold rd
  after_results_simp
  simp only [id_eq]
  pointwise []

theorem r_v67_5 (t d : Fin 2048) :
    rd S2048x1x2048 (StableHlo.after hostOps0_6 W (Proc.devRef .tc main_v67_5)) (ix3 t 0 d)
      = 0 := by
  unfold rd
  after_results_simp
  simp only [id_eq]
  pointwise []

theorem r_v72 (t d : Fin 2048) :
    rd S1x2048x2048 (StableHlo.after hostOps0_7 W (Proc.devRef .tc main_v72)) (ix3 0 t d)
      = rd S2048x1x2048 (W (Proc.devRef .tc main_v67_5)) (ix3 t 0 d) + rd S1x2048x2048 (W (Proc.devRef .tc main_v36)) (ix3 0 t d) * rd S2048 (W (Proc.devRef .tc main_arg8)) (ix1 d) := by
  unfold rd
  after_results_simp
  pointwise []

theorem r_v75 (t : Fin 2048) (o : Fin 1024) :
    rd S1x2048x1024 (StableHlo.after hostOps0_9 W (Proc.devRef .tc main_v75)) (ix3 0 t o)
      = ∑ d : Fin 2048, (rd S1x2048x2048 (W (Proc.devRef .tc main_v72)) (ix3 0 t d) * rd S1x2048x2048 (W (Proc.devRef .tc main_v73)) (ix3 0 t d)) * rd S2048x1024 (W (Proc.devRef .tc main_arg9)) (ix2 d o) := by
  unfold rd
  after_results_simp
  pointwise []

theorem r_silu (v : FVec Ideal S1x2048x2048 .f32) (t d : Fin 2048) :
    rd S1x2048x2048 (mulf v (Host.divf (broadcastInDim S1x2048x2048 ![] bcast_S_S1x2048x2048 (constant S_ .f32 0x3F800000#32)) (addf (broadcastInDim S1x2048x2048 ![] bcast_S_S1x2048x2048 (constant S_ .f32 0x3F800000#32)) (Host.exp (Host.negf v))))) (ix3 0 t d) = silu (rd S1x2048x2048 v (ix3 0 t d)) := by
  unfold rd silu
  pointwise []
  rfl

theorem r_v36 (t d : Fin 2048) :
    rd S1x2048x2048 (StableHlo.after hostOps0_3 W (Proc.devRef .tc main_v36)) (ix3 0 t d) = silu (rd S1x2048x2048 (W (Proc.devRef .tc main_v35)) (ix3 0 t d)) := by
  after_results_simp
  exact r_silu (W (Proc.devRef .tc main_v35)) t d

theorem r_v73 (t d : Fin 2048) :
    rd S1x2048x2048 (StableHlo.after hostOps0_8 W (Proc.devRef .tc main_v73)) (ix3 0 t d) = silu (rd S1x2048x2048 (W (Proc.devRef .tc main_v2)) (ix3 0 t d)) := by
  after_results_simp
  exact r_silu (W (Proc.devRef .tc main_v2)) t d

/-- The zeros that softplus takes. -/
abbrev zs : FVec Ideal S1x2048x2048 .f32 := broadcastInDim S1x2048x2048 ![] bcast_S_S1x2048x2048 (constant S_ .f32 0x00000000#32)

theorem r_softplus (v : FVec Ideal S1x2048x2048 .f32) (t d : Fin 2048) :
    rd S1x2048x2048 (select (cmpf .une (subf v zs) (subf v zs)) (addf v zs) (addf (maximumf v zs) (Host.log1p (Host.exp (Host.negf (Host.absf (subf v zs))))))) (ix3 0 t d)
      = softplus (rd S1x2048x2048 v (ix3 0 t d)) := by
  unfold rd softplus zs
  pointwise []
  rw [if_neg (fun h => h rfl), zero_sub]
  rfl

theorem r_v45 (t d : Fin 2048) :
    rd S1x2048x2048 (StableHlo.after hostOps0_5 W (Proc.devRef .tc main_v45)) (ix3 0 t d) = softplus (rd S1x2048x2048 (W (Proc.devRef .tc main_v44)) (ix3 0 t d)) := by
  after_results_simp
  exact r_softplus (W (Proc.devRef .tc main_v44)) t d

end Cert.ReferenceIdeal.Spec
-- ==== Proof.V.RefLoop.lean ====
module

public import proofs.«01_k».proof.Proof.V.RefOps
public import Idealize.ShloMosaic.Lib.DynamicIndex
public import Idealize.ShloMosaic.Lib.WordCmp

/-! # The reference's loop: the recurrence, one row a trip -/

@[expose] public section

set_option maxRecDepth 16384

noncomputable section

namespace Cert.ReferenceIdeal.Spec

open Cert.ReferenceIdeal Cert.ReferenceIdeal.Gen Cert.ReferenceIdeal.Value Cert.ReferenceIdeal.Hand
open Idealize.ShloMosaic Idealize.ShloMosaic.TcCoe
open Cert.Mamba Idealize.ShloMosaic.StableHlo

/-! ## Reads and writes at the trip's row -/

theorem ds4 (x : S2048x1x2048x16.Idx → EReal) (start : Fin 4 → Int) (h : S2048x1x2048x16.Slices (fun _ => 0) S1x1x2048x16) (k : Fin 2048)
    (e : ∀ a, start a = (((![k.val, 0, 0, 0] : Fin 4 → ℕ) a : ℕ) : Int)) (d : Fin 2048) (n : Fin 16) :
    shapeCast S1x2048x16 (Host.dynamicSlice S1x1x2048x16 x start h) shapeCasts_S1x1x2048x16_S1x2048x16 (ix3 0 d n) = x (ix4 k 0 d n) := by
  have hk : S2048x1x2048x16.Slices ![k.val, 0, 0, 0] S1x1x2048x16 := ⟨rfl, fun a => by
    match a with
    | 0 => change k.val + 1 ≤ 2048; omega
    | 1 => change 0 + 1 ≤ 1; omega
    | 2 => change 0 + 2048 ≤ 2048; omega
    | 3 => change 0 + 16 ≤ 16; omega⟩
  rw [Host.dynamicSlice_eq_extractStridedSlice S1x1x2048x16 x start ![k.val, 0, 0, 0] h hk e]
  pointwise []

theorem ds3 (x : S2048x1x16.Idx → EReal) (start : Fin 3 → Int) (h : S2048x1x16.Slices (fun _ => 0) S1x1x16) (k : Fin 2048)
    (e : ∀ a, start a = (((![k.val, 0, 0] : Fin 3 → ℕ) a : ℕ) : Int)) (n : Fin 16) :
    shapeCast S1x16 (Host.dynamicSlice S1x1x16 x start h) shapeCasts_S1x1x16_S1x16 (ix2 0 n) = x (ix3 k 0 n) := by
  have hk : S2048x1x16.Slices ![k.val, 0, 0] S1x1x16 := ⟨rfl, fun a => by
    match a with
    | 0 => change k.val + 1 ≤ 2048; omega
    | 1 => change 0 + 1 ≤ 1; omega
    | 2 => change 0 + 16 ≤ 16; omega⟩
  rw [Host.dynamicSlice_eq_extractStridedSlice S1x1x16 x start ![k.val, 0, 0] h hk e]
  pointwise []

theorem dus (x : S2048x1x2048.Idx → EReal) (u : S1x1x2048.Idx → EReal) (start : Fin 3 → Int) (h : S2048x1x2048.Slices (fun _ => 0) S1x1x2048)
    (k : Fin 2048) (e : ∀ a, start a = (((![k.val, 0, 0] : Fin 3 → ℕ) a : ℕ) : Int)) (t d : Fin 2048) :
    Host.dynamicUpdateSlice x u start h (ix3 t 0 d) = if t = k then u (ix3 0 0 d) else x (ix3 t 0 d) := by
  have hk : S2048x1x2048.Slices ![k.val, 0, 0] S1x1x2048 := ⟨rfl, fun a => by
    match a with
    | 0 => change k.val + 1 ≤ 2048; omega
    | 1 => change 0 + 1 ≤ 1; omega
    | 2 => change 0 + 2048 ≤ 2048; omega⟩
  rw [WordCmp.dynamicUpdateSlice_eq_update x u start h ![k.val, 0, 0] hk e]
  unfold updateSlice
  by_cases htk : t = k
  · subst htk
    rw [if_pos rfl, dif_pos (fun a => by
      match a with
      | 0 => exact ⟨Nat.le_refl _, by change t.val < t.val + 1; omega⟩
      | 1 => exact ⟨Nat.le_refl _, by change 0 < 0 + 1; omega⟩
      | 2 => exact ⟨Nat.zero_le _, by change d.val < 0 + 2048; omega⟩)]
    congr 1
    funext a
    match a with
    | 0 => exact Fin.ext (by change t.val - t.val = 0; omega)
    | 1 => exact Fin.ext (by change 0 - 0 = 0; omega)
    | 2 => exact Fin.ext (by change d.val - 0 = d.val; omega)
  · rw [if_neg htk, dif_neg (fun hin => htk (Fin.ext (by
      have h0 := hin 0
      have h1 : k.val ≤ t.val := h0.1
      have h2 : t.val < k.val + 1 := h0.2
      omega)))]

theorem ctr_int (k : Fin 2048) : (Scf.iv 0#32 1#32 k.val).toInt = (k.val : Int) := by
  have e : Scf.iv 0#32 1#32 k.val = BitVec.ofNat 32 k.val := by unfold Scf.iv; simp
  rw [e]
  exact toInt_ofNat_of_lt (by omega)

theorem starts4 (v : IVec S_ 32) (k : Fin 2048) (hv : v = fun _ => Scf.iv 0#32 1#32 k.val) (a : Fin 4) :
    ((![v, constantI S_ 32 0#32, constantI S_ 32 0#32, constantI S_ 32 0#32] : Fin 4 → IVec S_ 32) a (Shape.Idx.first h_S_)).toInt = (((![k.val, 0, 0, 0] : Fin 4 → ℕ) a : ℕ) : Int) := by
  subst hv
  match a with
  | 0 => exact ctr_int k
  | 1 => rfl
  | 2 => rfl
  | 3 => rfl

theorem starts3 (v : IVec S_ 32) (k : Fin 2048) (hv : v = fun _ => Scf.iv 0#32 1#32 k.val) (a : Fin 3) :
    ((![v, constantI S_ 32 0#32, constantI S_ 32 0#32] : Fin 3 → IVec S_ 32) a (Shape.Idx.first h_S_)).toInt = (((![k.val, 0, 0] : Fin 3 → ℕ) a : ℕ) : Int) := by
  subst hv
  match a with
  | 0 => exact ctr_int k
  | 1 => rfl
  | 2 => rfl

/-! ## One trip -/

theorem out_row (h : FVec Ideal S1x2048x16 .f32) (c : FVec Ideal S1x16 .f32) (d : Fin 2048) :
    rd S1x1x2048 (broadcastInDim S1x1x2048 ![1, 2] bcast_S1x2048_S1x1x2048_1_2 (Host.dotGeneral dot_S1x2048x16_S1x16_S1x2048_2_1_1_n_0_0 none h c)) (ix3 0 0 d)
      = ∑ n : Fin 16, rd S1x2048x16 h (ix3 0 d n) * rd S1x16 c (ix2 0 n) := by
  unfold rd
  pointwise []

section
variable (W : Valuation τ sig (Elt Ideal)) (k : Fin 2048) (hk : W (Proc.devRef .tc main_v67_3) = fun _ => Scf.iv 0#32 1#32 k.val)
include hk

theorem next_h (d : Fin 2048) (n : Fin 16) :
    rd S1x2048x16 (res_main_while0b_v80 W) (ix3 0 d n)
      = rd S2048x1x2048x16 (W (Proc.devRef .tc main_v67_0)) (ix4 k 0 d n) * rd S1x2048x16 (W (Proc.devRef .tc main_v67_4)) (ix3 0 d n)
        + rd S2048x1x2048x16 (W (Proc.devRef .tc main_v67_1)) (ix4 k 0 d n) := by
  unfold res_main_while0b_v80
  refine congr (congrArg (fun x y : EReal => x + y) (congrArg (fun x : EReal => x * rd S1x2048x16 (W (Proc.devRef .tc main_v67_4)) (ix3 0 d n)) ?_)) ?_
  · exact ds4 (W (Proc.devRef .tc main_v67_0)) _ _ k (starts4 _ k hk) d n
  · exact ds4 (W (Proc.devRef .tc main_v67_1)) _ _ k (starts4 _ k hk) d n

theorem next_y (t d : Fin 2048) :
    rd S2048x1x2048 (step_main_v67_5 W) (ix3 t 0 d)
      = if t = k then ∑ n : Fin 16, rd S1x2048x16 (res_main_while0b_v80 W) (ix3 0 d n) * rd S2048x1x16 (W (Proc.devRef .tc main_v67_2)) (ix3 k 0 n)
        else rd S2048x1x2048 (W (Proc.devRef .tc main_v67_5)) (ix3 t 0 d) := by
  unfold step_main_v67_5
  refine (dus (W (Proc.devRef .tc main_v67_5)) _ _ updateFits_S2048x1x2048_S1x1x2048 k (starts3 _ k hk) t d).trans ?_
  refine congrArg (fun x : EReal => if t = k then x else rd S2048x1x2048 (W (Proc.devRef .tc main_v67_5)) (ix3 t 0 d)) ?_
  refine (out_row (res_main_while0b_v80 W) _ d).trans ?_
  refine Finset.sum_congr rfl fun n _ => congrArg (fun x : EReal => rd S1x2048x16 (res_main_while0b_v80 W) (ix3 0 d n) * x) ?_
  exact ds3 (W (Proc.devRef .tc main_v67_2)) _ _ k (starts3 _ k hk) n
end

/-! ## All the trips -/

section
variable (m : (ℓ : Loc nD τ sig) → Buf (Elt Ideal) ℓ) (c₀ : Dev nD)

/-- The carried buffers after `k` trips. -/
abbrev S (k : ℕ) : Valuation τ sig (Elt Ideal) := STEP^[k] (entryContents preI m c₀)

theorem S_succ (k : ℕ) : S m c₀ (k + 1) = STEP (S m c₀ k) := Function.iterate_succ_apply' _ _ _

theorem S_0 (k : ℕ) : S m c₀ k (Proc.devRef .tc main_v67_0) = entryContents preI m c₀ (Proc.devRef .tc main_v67_0) := by
  induction k with
  | zero => rfl
  | succ k ih => rw [S_succ, STEP_main_v67_0, ih]
theorem S_1 (k : ℕ) : S m c₀ k (Proc.devRef .tc main_v67_1) = entryContents preI m c₀ (Proc.devRef .tc main_v67_1) := by
  induction k with
  | zero => rfl
  | succ k ih => rw [S_succ, STEP_main_v67_1, ih]
theorem S_2 (k : ℕ) : S m c₀ k (Proc.devRef .tc main_v67_2) = entryContents preI m c₀ (Proc.devRef .tc main_v67_2) := by
  induction k with
  | zero => rfl
  | succ k ih => rw [S_succ, STEP_main_v67_2, ih]
theorem S_3 (k : ℕ) : S m c₀ k (Proc.devRef .tc main_v67_3) = fun _ => Scf.iv 0#32 1#32 k :=
  (atK_agree m c₀ k main_v67_3 (by decide)).symm.trans (atK_ctr m c₀ k)

variable (dt : Fin 2048 → Fin 2048 → EReal) (a b c : Fin 2048 → Fin 16 → EReal) (xc : Fin 2048 → Fin 2048 → EReal)
  (h0 : ∀ t d n, rd S2048x1x2048x16 (entryContents preI m c₀ (Proc.devRef .tc main_v67_0)) (ix4 t 0 d n) = Ideal.exp (dt t d * a d n))
  (h1 : ∀ t d n, rd S2048x1x2048x16 (entryContents preI m c₀ (Proc.devRef .tc main_v67_1)) (ix4 t 0 d n) = (dt t d * b t n) * xc t d)
  (h2 : ∀ t n, rd S2048x1x16 (entryContents preI m c₀ (Proc.devRef .tc main_v67_2)) (ix3 t 0 n) = c t n)
  (h4 : ∀ d n, rd S1x2048x16 (entryContents preI m c₀ (Proc.devRef .tc main_v67_4)) (ix3 0 d n) = 0)
  (h5 : ∀ t d, rd S2048x1x2048 (entryContents preI m c₀ (Proc.devRef .tc main_v67_5)) (ix3 t 0 d) = 0)

theorem row_of_lt (k : Fin 2048) : row k.val = k := Fin.ext (Nat.mod_eq_of_lt k.isLt)

include h0 h1 in
theorem trip_h (k : Fin 2048) (ih : ∀ d n, rd S1x2048x16 (S m c₀ k.val (Proc.devRef .tc main_v67_4)) (ix3 0 d n) = state dt a b xc k.val d n) (d : Fin 2048) (n : Fin 16) :
    rd S1x2048x16 (res_main_while0b_v80 (S m c₀ k.val)) (ix3 0 d n) = state dt a b xc (k.val + 1) d n := by
  rw [next_h (S m c₀ k.val) k (S_3 m c₀ k.val) d n, S_0, S_1, h0, h1, ih]
  change _ = Ideal.exp (dt (row k.val) d * a d n) * state dt a b xc k.val d n + (dt (row k.val) d * b (row k.val) n) * xc (row k.val) d
  rw [row_of_lt]

include h0 h1 h4 in
theorem S_4 (k : ℕ) (hk : k ≤ 2048) : ∀ d n, rd S1x2048x16 (S m c₀ k (Proc.devRef .tc main_v67_4)) (ix3 0 d n) = state dt a b xc k d n := by
  induction k with
  | zero => exact h4
  | succ k ih =>
    intro d n
    rw [S_succ, STEP_main_v67_4]
    exact trip_h m c₀ dt a b xc h0 h1 ⟨k, hk⟩ (ih (by omega)) d n

include h0 h1 h2 h4 h5 in
theorem S_5 (k : ℕ) (hk : k ≤ 2048) : ∀ t d, rd S2048x1x2048 (S m c₀ k (Proc.devRef .tc main_v67_5)) (ix3 t 0 d) = if t.val < k then ssm dt a b c xc t d else 0 := by
  induction k with
  | zero => exact fun t d => (h5 t d).trans (if_neg (Nat.not_lt_zero _)).symm
  | succ k ih =>
    intro t d
    rw [S_succ, STEP_main_v67_5, next_y (S m c₀ k) ⟨k, hk⟩ (S_3 m c₀ k) t d, ih (by omega) t d, S_2]
    by_cases htk : t = ⟨k, hk⟩
    · subst htk
      rw [if_pos rfl, if_pos (Nat.lt_succ_self k)]
      unfold ssm
      refine Finset.sum_congr rfl fun n _ => ?_
      rw [h2, trip_h m c₀ dt a b xc h0 h1 ⟨k, hk⟩ (S_4 m c₀ dt a b xc h0 h1 h4 k (by omega)) d n]
    · have hne : t.val ≠ k := fun e => htk (Fin.ext e)
      rw [if_neg htk]
      by_cases hlt : t.val < k
      · rw [if_pos hlt, if_pos (by omega)]
      · rw [if_neg hlt, if_neg (by omega)]
end

end Cert.ReferenceIdeal.Spec
-- ==== Proof.V.Ref.lean ====
module

public import proofs.«01_k».proof.Proof.V.RefLoop

/-! # The reference's result as a function of its arguments -/

@[expose] public section

set_option maxRecDepth 16384

noncomputable section

namespace Cert.ReferenceIdeal.Spec

open Cert.ReferenceIdeal Cert.ReferenceIdeal.Gen Cert.ReferenceIdeal.Value Cert.ReferenceIdeal.Hand
open Idealize.ShloMosaic Idealize.ShloMosaic.TcCoe
open Cert.Mamba Idealize.ShloMosaic.StableHlo

variable (m : (ℓ : Loc nD τ sig) → Buf (Elt Ideal) ℓ) (c : Dev nD)

/-- The arguments in core `c`'s memory. -/
def args : Args where
  x t k := (m ((c : Thread nD τ).loc main_arg0) : S1x2048x1024.Idx → EReal) (ix3 0 t k)
  wIn k d := (m ((c : Thread nD τ).loc main_arg1) : S1024x4096.Idx → EReal) (ix2 k d)
  cw k d := (m ((c : Thread nD τ).loc main_arg2) : S2048x1x4.Idx → EReal) (ix3 d 0 k)
  cb d := (m ((c : Thread nD τ).loc main_arg3) : S2048.Idx → EReal) (ix1 d)
  wX d r := (m ((c : Thread nD τ).loc main_arg4) : S2048x96.Idx → EReal) (ix2 d r)
  wDt r d := (m ((c : Thread nD τ).loc main_arg5) : S64x2048.Idx → EReal) (ix2 r d)
  bDt d := (m ((c : Thread nD τ).loc main_arg6) : S2048.Idx → EReal) (ix1 d)
  aLog d n := (m ((c : Thread nD τ).loc main_arg7) : S2048x16.Idx → EReal) (ix2 d n)
  dp d := (m ((c : Thread nD τ).loc main_arg8) : S2048.Idx → EReal) (ix1 d)
  wOut d o := (m ((c : Thread nD τ).loc main_arg9) : S2048x1024.Idx → EReal) (ix2 d o)

/-! ## The stretches before the loop -/

/-- The buffers at launch, and after each stretch. -/
abbrev P0 : Valuation τ sig (Elt Ideal) := fun b => m ((c : Dev nD), b)
abbrev P1 : Valuation τ sig (Elt Ideal) := after hostOps0 (P0 m c)
abbrev P2 : Valuation τ sig (Elt Ideal) := after hostOps0_1 (P1 m c)
abbrev P3 : Valuation τ sig (Elt Ideal) := after hostOps0_2 (P2 m c)
abbrev P4 : Valuation τ sig (Elt Ideal) := after hostOps0_3 (P3 m c)
abbrev P5 : Valuation τ sig (Elt Ideal) := after hostOps0_4 (P4 m c)
abbrev P6 : Valuation τ sig (Elt Ideal) := after hostOps0_5 (P5 m c)
abbrev P7 : Valuation τ sig (Elt Ideal) := after hostOps0_6 (P6 m c)

theorem entry_eq : entryContents preI m c = P7 m c := rfl

theorem P1_of (r : Ref sig .tc) (h : r ∉ hostOps0_W) : P1 m c (Proc.devRef .tc r) = P0 m c (Proc.devRef .tc r) := after_of_writes_sub hostOps0 _ hostOps0_writes h
theorem P2_of (r : Ref sig .tc) (h : r ∉ hostOps0_1_W) : P2 m c (Proc.devRef .tc r) = P1 m c (Proc.devRef .tc r) := after_of_writes_sub hostOps0_1 _ hostOps0_1_writes h
theorem P3_of (r : Ref sig .tc) (h : r ∉ hostOps0_2_W) : P3 m c (Proc.devRef .tc r) = P2 m c (Proc.devRef .tc r) := after_of_writes_sub hostOps0_2 _ hostOps0_2_writes h
theorem P4_of (r : Ref sig .tc) (h : r ∉ hostOps0_3_W) : P4 m c (Proc.devRef .tc r) = P3 m c (Proc.devRef .tc r) := after_of_writes_sub hostOps0_3 _ hostOps0_3_writes h
theorem P5_of (r : Ref sig .tc) (h : r ∉ hostOps0_4_W) : P5 m c (Proc.devRef .tc r) = P4 m c (Proc.devRef .tc r) := after_of_writes_sub hostOps0_4 _ hostOps0_4_writes h
theorem P6_of (r : Ref sig .tc) (h : r ∉ hostOps0_5_W) : P6 m c (Proc.devRef .tc r) = P5 m c (Proc.devRef .tc r) := after_of_writes_sub hostOps0_5 _ hostOps0_5_writes h
theorem P7_of (r : Ref sig .tc) (h : r ∉ hostOps0_6_W) : P7 m c (Proc.devRef .tc r) = P6 m c (Proc.devRef .tc r) := after_of_writes_sub hostOps0_6 _ hostOps0_6_writes h

/-- The argument arrays. -/
abbrev argRefs : List (Ref sig .tc) := [main_arg0, main_arg1, main_arg2, main_arg3, main_arg4, main_arg5, main_arg6, main_arg7, main_arg8, main_arg9]
theorem args_0 : ∀ a ∈ argRefs, a ∉ hostOps0_W := ListAll.forall_mem_of_all_decide (by decide +kernel)
theorem args_1 : ∀ a ∈ argRefs, a ∉ hostOps0_1_W := ListAll.forall_mem_of_all_decide (by decide +kernel)
theorem args_2 : ∀ a ∈ argRefs, a ∉ hostOps0_2_W := ListAll.forall_mem_of_all_decide (by decide +kernel)
theorem args_3 : ∀ a ∈ argRefs, a ∉ hostOps0_3_W := ListAll.forall_mem_of_all_decide (by decide +kernel)
theorem args_4 : ∀ a ∈ argRefs, a ∉ hostOps0_4_W := ListAll.forall_mem_of_all_decide (by decide +kernel)
theorem args_5 : ∀ a ∈ argRefs, a ∉ hostOps0_5_W := ListAll.forall_mem_of_all_decide (by decide +kernel)
theorem args_6 : ∀ a ∈ argRefs, a ∉ hostOps0_6_W := ListAll.forall_mem_of_all_decide (by decide +kernel)
theorem P2_args (a : Ref sig .tc) (ha : a ∈ argRefs) : P2 m c (Proc.devRef .tc a) = P0 m c (Proc.devRef .tc a) := (P2_of m c a (args_1 a ha)).trans (P1_of m c a (args_0 a ha))
theorem P4_args (a : Ref sig .tc) (ha : a ∈ argRefs) : P4 m c (Proc.devRef .tc a) = P0 m c (Proc.devRef .tc a) :=
  (P4_of m c a (args_3 a ha)).trans ((P3_of m c a (args_2 a ha)).trans (P2_args m c a ha))
theorem P6_args (a : Ref sig .tc) (ha : a ∈ argRefs) : P6 m c (Proc.devRef .tc a) = P0 m c (Proc.devRef .tc a) :=
  (P6_of m c a (args_5 a ha)).trans ((P5_of m c a (args_4 a ha)).trans (P4_args m c a ha))
theorem P7_args (a : Ref sig .tc) (ha : a ∈ argRefs) : P7 m c (Proc.devRef .tc a) = P0 m c (Proc.devRef .tc a) := (P7_of m c a (args_6 a ha)).trans (P6_args m c a ha)

theorem e_u (t d : Fin 2048) : rd S1x2048x2048 (P1 m c (Proc.devRef .tc main_v1)) (ix3 0 t d) = (args m c).u t d := r_v1 (P0 m c) t d
theorem e_z (t d : Fin 2048) : rd S1x2048x2048 (P1 m c (Proc.devRef .tc main_v2)) (ix3 0 t d) = (args m c).z t d := r_v2 (P0 m c) t d

theorem e_c : P1 m c (Proc.devRef .tc main_c) = constantI S_ 32 0#32 := by
  after_results_simp

theorem e_late (s : Fin 2051) (d : Fin 2048) : rd S1x2051x2048 (P2 m c (Proc.devRef .tc main_v3)) (ix3 0 s d) = late (args m c).u s.val d := by
  refine (r_v3 (P1 m c) (e_c m c) s d).trans ?_
  have h : (fun t d => rd S1x2048x2048 (P1 m c (Proc.devRef .tc main_v1)) (ix3 0 t d)) = (args m c).u := by
    funext t d; exact e_u m c t d
  rw [h]

theorem e_conv (t d : Fin 2048) : rd S1x2048x2048 (P3 m c (Proc.devRef .tc main_v35)) (ix3 0 t d) = conv (args m c).cw (args m c).cb (args m c).u t d := by
  refine (r_v35 (P2 m c) t d).trans ?_
  rw [P2_args m c main_arg2 (by decide), P2_args m c main_arg3 (by decide), e_late, e_late, e_late, e_late]
  unfold conv
  rw [zero_add, Nat.add_comm t.val 1, Nat.add_comm t.val 2, Nat.add_comm t.val 3]
  refine congrArg (fun x : EReal => x + (args m c).cb d) ?_
  rw [mul_comm ((args m c).cw 0 d), mul_comm ((args m c).cw 1 d), mul_comm ((args m c).cw 2 d), mul_comm ((args m c).cw 3 d)]
  rfl

theorem e_xc4 (t d : Fin 2048) : rd S1x2048x2048 (P4 m c (Proc.devRef .tc main_v36)) (ix3 0 t d) = (args m c).xc t d := by
  refine (r_v36 (P3 m c) t d).trans ?_
  rw [e_conv]
  rfl

theorem e_xd (t : Fin 2048) (r : Fin 96) :
    (∑ k : Fin 2048, rd S1x2048x2048 (P4 m c (Proc.devRef .tc main_v36)) (ix3 0 t k) * rd S2048x96 (P4 m c (Proc.devRef .tc main_arg4)) (ix2 k r)) = (args m c).xd t r := by
  rw [P4_args m c main_arg4 (by decide)]
  unfold Args.xd lin
  refine Finset.sum_congr (M := EReal) rfl fun k _ => ?_
  rw [e_xc4]
  rfl

theorem e_b (t : Fin 2048) (n : Fin 16) : rd S1x2048x16 (P5 m c (Proc.devRef .tc main_v39)) (ix3 0 t n) = (args m c).b t n :=
  (r_v39 (P4 m c) t n).trans (e_xd m c t ⟨64 + n.val, by omega⟩)
theorem e_cc (t : Fin 2048) (n : Fin 16) : rd S1x2048x16 (P5 m c (Proc.devRef .tc main_v40)) (ix3 0 t n) = (args m c).c t n :=
  (r_v40 (P4 m c) t n).trans (e_xd m c t ⟨80 + n.val, by omega⟩)
theorem e_dtArg (t d : Fin 2048) : rd S1x2048x2048 (P5 m c (Proc.devRef .tc main_v44)) (ix3 0 t d) = (args m c).dtArg t d := by
  refine (r_v44 (P4 m c) t d).trans ?_
  rw [P4_args m c main_arg5 (by decide), P4_args m c main_arg6 (by decide)]
  refine congrArg (fun x : EReal => x + (args m c).bDt d) ?_
  exact Finset.sum_congr rfl fun r _ => congrArg (fun x : EReal => x * (args m c).wDt r d) (e_xd m c t ⟨r.val, by omega⟩)
theorem e_dt (t d : Fin 2048) : rd S1x2048x2048 (P6 m c (Proc.devRef .tc main_v45)) (ix3 0 t d) = (args m c).dt t d := by
  refine (r_v45 (P5 m c) t d).trans ?_
  rw [e_dtArg]
  rfl

/-! ## The loop -/

theorem e0 (t d : Fin 2048) (n : Fin 16) : rd S2048x1x2048x16 (entryContents preI m c (Proc.devRef .tc main_v67_0)) (ix4 t 0 d n) = Ideal.exp ((args m c).dt t d * (args m c).a d n) := by
  refine (r_v67_0 (P6 m c) t d n).trans ?_
  rw [e_dt, P6_args m c main_arg7 (by decide)]
  rfl
theorem e1 (t d : Fin 2048) (n : Fin 16) : rd S2048x1x2048x16 (entryContents preI m c (Proc.devRef .tc main_v67_1)) (ix4 t 0 d n) = ((args m c).dt t d * (args m c).b t n) * (args m c).xc t d := by
  refine (r_v67_1 (P6 m c) t d n).trans ?_
  rw [e_dt, P6_of m c main_v39 (by decide), e_b, P6_of m c main_v36 (by decide), P5_of m c main_v36 (by decide), e_xc4]
theorem e2 (t : Fin 2048) (n : Fin 16) : rd S2048x1x16 (entryContents preI m c (Proc.devRef .tc main_v67_2)) (ix3 t 0 n) = (args m c).c t n := by
  refine (r_v67_2 (P6 m c) t n).trans ?_
  rw [P6_of m c main_v40 (by decide), e_cc]

/-- The rows the loop leaves. -/
theorem e_y (t d : Fin 2048) : rd S2048x1x2048 (VL m c (Proc.devRef .tc main_v67_5)) (ix3 t 0 d) = (args m c).y t d := by
  have h : VL m c (Proc.devRef .tc main_v67_5) = S m c 2048 (Proc.devRef .tc main_v67_5) :=
    (cond_keeps (atK m 2048 c) main_v67_5 (by decide)).trans (atK_agree m c 2048 main_v67_5 (by decide))
  rw [h]
  refine (S_5 m c (args m c).dt (args m c).a (args m c).b (args m c).c (args m c).xc (e0 m c) (e1 m c) (e2 m c)
    (fun d n => r_v67_4 (P6 m c) d n) (fun t d => r_v67_5 (P6 m c) t d) 2048 (Nat.le_refl _) t d).trans ?_
  rw [if_pos t.isLt]
  rfl

theorem VL_args (a : Ref sig .tc) (ha : a ∈ argRefs) (h : a ∉ loopW) : VL m c (Proc.devRef .tc a) = P0 m c (Proc.devRef .tc a) :=
  (VL_keeps m a h c).trans (P7_args m c a ha)
theorem VL_xc (t d : Fin 2048) : rd S1x2048x2048 (VL m c (Proc.devRef .tc main_v36)) (ix3 0 t d) = (args m c).xc t d := by
  rw [VL_keeps m main_v36 (by decide +kernel) c, entry_eq, P7_of m c main_v36 (by decide), P6_of m c main_v36 (by decide), P5_of m c main_v36 (by decide), e_xc4]
theorem VL_z (t d : Fin 2048) : rd S1x2048x2048 (VL m c (Proc.devRef .tc main_v2)) (ix3 0 t d) = (args m c).z t d := by
  rw [VL_keeps m main_v2 (by decide +kernel) c, entry_eq, P7_of m c main_v2 (by decide), P6_of m c main_v2 (by decide), P5_of m c main_v2 (by decide),
    P4_of m c main_v2 (by decide), P3_of m c main_v2 (by decide), P2_of m c main_v2 (by decide), e_z]

/-! ## The stretches after it -/

abbrev Q1 : Valuation τ sig (Elt Ideal) := after hostOps0_7 (VL m c)
abbrev Q2 : Valuation τ sig (Elt Ideal) := after hostOps0_8 (Q1 m c)
abbrev Q3 : Valuation τ sig (Elt Ideal) := after hostOps0_9 (Q2 m c)
theorem final_eq : finalContents condOps preI bodyI postI 2048 m c = Q3 m c := rfl
theorem Q1_of (r : Ref sig .tc) (h : r ∉ hostOps0_7_W) : Q1 m c (Proc.devRef .tc r) = VL m c (Proc.devRef .tc r) := after_of_writes_sub hostOps0_7 _ hostOps0_7_writes h
theorem Q2_of (r : Ref sig .tc) (h : r ∉ hostOps0_8_W) : Q2 m c (Proc.devRef .tc r) = Q1 m c (Proc.devRef .tc r) := after_of_writes_sub hostOps0_8 _ hostOps0_8_writes h

theorem e_sum (t d : Fin 2048) : rd S1x2048x2048 (Q1 m c (Proc.devRef .tc main_v72)) (ix3 0 t d) = (args m c).y t d + (args m c).xc t d * (args m c).dp d := by
  refine (r_v72 (VL m c) t d).trans ?_
  rw [e_y, VL_xc, VL_args m c main_arg8 (by decide) (by decide +kernel)]
  rfl
theorem e_gate (t d : Fin 2048) : rd S1x2048x2048 (Q2 m c (Proc.devRef .tc main_v73)) (ix3 0 t d) = silu ((args m c).z t d) := by
  refine (r_v73 (Q1 m c) t d).trans ?_
  rw [Q1_of m c main_v2 (by decide), VL_z]

theorem e_out (t : Fin 2048) (o : Fin 1024) :
    rd S1x2048x1024 (finalContents condOps preI bodyI postI 2048 m c (Proc.devRef .tc main_v75)) (ix3 0 t o) = (args m c).out t o := by
  rw [final_eq]
  refine (r_v75 (Q2 m c) t o).trans ?_
  unfold Args.out gate
  refine Finset.sum_congr (M := EReal) rfl fun d _ => ?_
  rw [e_gate, Q2_of m c main_v72 (by decide), e_sum, Q2_of m c main_arg9 (by decide), Q1_of m c main_arg9 (by decide), VL_args m c main_arg9 (by decide) (by decide +kernel)]
  rfl

end Cert.ReferenceIdeal.Spec
-- ==== Proof.V.Algebraic.lean ====
module

public import proofs.«01_k».proof.Defs
public import proofs.«01_k».proof.Proof.V.Kernel
public import proofs.«01_k».proof.Proof.V.Ref

/-! # The kernel's result is the reference's -/

@[expose] public section

set_option maxRecDepth 16384

noncomputable section

namespace Cert.Mamba

open Idealize.ShloMosaic Idealize.SL.Sem Idealize.ShloMosaic.TcCoe

/-- The kernel's memory. -/
abbrev MemK := (ℓ : Loc Cert.KernelIdeal.nD Cert.KernelIdeal.τ Cert.KernelIdeal.sig) → Buf (Elt Ideal) ℓ
/-- The reference's memory. -/
abbrev MemR := (ℓ : Loc Cert.ReferenceIdeal.nD Cert.ReferenceIdeal.τ Cert.ReferenceIdeal.sig) → Buf (Elt Ideal) ℓ
/-- The kernel's array `b` on core `c`. -/
abbrev locK (c : Dev Cert.KernelIdeal.nD) (b : Ref Cert.KernelIdeal.sig .tc) : Loc Cert.KernelIdeal.nD Cert.KernelIdeal.τ Cert.KernelIdeal.sig :=
  (c.tc : Thread Cert.KernelIdeal.nD Cert.KernelIdeal.τ).loc b
/-- The reference's array `b` on core `c`. -/
abbrev locR (c : Dev Cert.ReferenceIdeal.nD) (b : Ref Cert.ReferenceIdeal.sig .tc) : Loc Cert.ReferenceIdeal.nD Cert.ReferenceIdeal.τ Cert.ReferenceIdeal.sig :=
  (c.tc : Thread Cert.ReferenceIdeal.nD Cert.ReferenceIdeal.τ).loc b

theorem args_eq (m : MemK) (m' : MemR) (c : Dev Cert.KernelIdeal.nD)
    (h0 : m' (locR c Cert.ReferenceIdeal.main_arg0) = m (locK c Cert.KernelIdeal.main_arg0))
    (h1 : m' (locR c Cert.ReferenceIdeal.main_arg1) = m (locK c Cert.KernelIdeal.main_arg1))
    (h2 : m' (locR c Cert.ReferenceIdeal.main_arg2) = m (locK c Cert.KernelIdeal.main_arg2))
    (h3 : m' (locR c Cert.ReferenceIdeal.main_arg3) = m (locK c Cert.KernelIdeal.main_arg3))
    (h4 : m' (locR c Cert.ReferenceIdeal.main_arg4) = m (locK c Cert.KernelIdeal.main_arg4))
    (h5 : m' (locR c Cert.ReferenceIdeal.main_arg5) = m (locK c Cert.KernelIdeal.main_arg5))
    (h6 : m' (locR c Cert.ReferenceIdeal.main_arg6) = m (locK c Cert.KernelIdeal.main_arg6))
    (h7 : m' (locR c Cert.ReferenceIdeal.main_arg7) = m (locK c Cert.KernelIdeal.main_arg7))
    (h8 : m' (locR c Cert.ReferenceIdeal.main_arg8) = m (locK c Cert.KernelIdeal.main_arg8))
    (h9 : m' (locR c Cert.ReferenceIdeal.main_arg9) = m (locK c Cert.KernelIdeal.main_arg9)) :
    Cert.ReferenceIdeal.Spec.args m' c = Cert.KernelIdeal.Value.args m c := by
  unfold Cert.ReferenceIdeal.Spec.args Cert.KernelIdeal.Value.args
  congr 1
  · funext t k; exact congrFun h0 (ix3 0 t k)
  · funext k d; exact congrFun h1 (ix2 k d)
  · funext k d; exact congrFun h2 (ix3 d 0 k)
  · funext d; exact congrFun h3 (ix1 d)
  · funext d r; exact congrFun h4 (ix2 d r)
  · funext r d; exact congrFun h5 (ix2 r d)
  · funext d; exact congrFun h6 (ix1 d)
  · funext d n; exact congrFun h7 (ix2 d n)
  · funext d; exact congrFun h8 (ix1 d)
  · funext d o; exact congrFun h9 (ix2 d o)

theorem algebraic : Cert.algebraic_KernelIdeal_ReferenceIdeal := by
  intro m g m' g' _ h
  refine ⟨fun c => Cert.KernelIdeal.Hand.W9 m g c (Proc.devRef .tc Cert.KernelIdeal.main_v20), ?_, ?_⟩
  · exact (θ_run Cert.KernelIdeal.defs _ _).mono (fun _ hr => hr.1) (Cert.KernelIdeal.Hand.run m g)
  · refine (θ_run Cert.ReferenceIdeal.defs _ _).mono (fun _ hr c => ⟨(hr.1 c).1.trans ?_, (hr.1 c).2⟩) (Cert.ReferenceIdeal.Hand.run m' g')
    obtain ⟨h0, h1, h2, h3, h4, h5, h6, h7, h8, h9⟩ := h c
    have ha := args_eq m m' c h0 h1 h2 h3 h4 h5 h6 h7 h8 h9
    have key : ∀ j : Cert.KernelIdeal.S1x2048x1024.Idx,
        (StableHlo.finalContents Cert.ReferenceIdeal.Value.condOps Cert.ReferenceIdeal.Value.preI Cert.ReferenceIdeal.Value.bodyI Cert.ReferenceIdeal.Value.postI 2048 m' c
          (Proc.devRef .tc Cert.ReferenceIdeal.main_v75) : Cert.KernelIdeal.S1x2048x1024.Idx → EReal) j
        = (Cert.KernelIdeal.Hand.W9 m g c (Proc.devRef .tc Cert.KernelIdeal.main_v20) : Cert.KernelIdeal.S1x2048x1024.Idx → EReal) j := by
      intro j
      obtain ⟨t, o, rfl⟩ : ∃ (t : Fin 2048) (o : Fin 1024), j = ix3 0 t o := ⟨j 1, j 2, by
        refine (eq_ix3 j).trans ?_
        have h1 : (j 0).val < 1 := (j 0).isLt
        exact congrArg (fun z => ix3 z (j 1) (j 2)) (Fin.ext (by change (j 0).val = 0; omega))⟩
      refine (Cert.ReferenceIdeal.Spec.e_out m' c t o).trans ?_
      rw [ha]
      exact (Cert.KernelIdeal.Value.k_out m g c t o).symm
    exact funext key

end Cert.Mamba
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Run
public import proofs.«01_k».proof.Proof.V.Algebraic
public import Idealize.ShloMosaic.Adequacy
public import Idealize.ShloMosaic.Init

@[expose] public section

noncomputable section

namespace Cert.Proof

open Idealize.ShloMosaic Idealize.SL.Sem Cert.Kernel

/-- The constant that the kernel multiplies by is named, and its word is the one that the printed kernel has. -/
theorem preserves : preserves_Kernel_KernelIdeal :=
  IdealRules.named_const.statement Cert.KernelIdeal.κ "log2e" .f32 0x3FB8AA3B#32 (((Real.log 2)⁻¹ : ℝ) : EReal) rfl

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Hand.frame m ρ, preserves, Cert.Mamba.algebraic⟩

end Cert.Proof

end
